-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_args_in_range [hPre_args_in_range : Cert.Pre_args_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_args_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_args_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_args_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_args_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_args_in_range [hPre_args_in_range : Cert.Pre_args_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_args_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_args_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_args_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_args_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_args_in_range [hKernelIdeal : Cert.KernelIdeal.Facts] [hPre_args_in_range : Cert.Pre_args_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_args_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_args_in_range [hReferenceIdeal : Cert.ReferenceIdeal.Facts] [hPre_args_in_range : Cert.Pre_args_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_args_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_args_in_range [hKernelIdeal : Cert.KernelIdeal.Facts] [hReferenceIdeal : Cert.ReferenceIdeal.Facts] [hPre_args_in_range : Cert.Pre_args_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_args_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_args_in_range : Cert.Pre_args_in_range.Facts),
    quiescent_Kernel (hKernel := hKernel)
    ∧ quiescent_KernelIdeal (hKernelIdeal := hKernelIdeal)
    ∧ quiescent_KernelIdeal_pre_args_in_range (hKernelIdeal := hKernelIdeal) (hPre_args_in_range := hPre_args_in_range)
    ∧ quiescent_ReferenceIdeal (hReferenceIdeal := hReferenceIdeal)
    ∧ quiescent_ReferenceIdeal_pre_args_in_range (hReferenceIdeal := hReferenceIdeal) (hPre_args_in_range := hPre_args_in_range)
    ∧ preserves_Kernel_KernelIdeal
    ∧ algebraic_KernelIdeal_ReferenceIdeal_pre_args_in_range (hKernelIdeal := hKernelIdeal) (hReferenceIdeal := hReferenceIdeal) (hPre_args_in_range := hPre_args_in_range)
-- ==== Pre_args_in_range.lean ====
abbrev S16384x1000 : Shape := ⟨2, ![16384, 1000]⟩
abbrev S16384x512 : Shape := ⟨2, ![16384, 512]⟩
abbrev S16384 : Shape := ⟨1, ![16384]⟩
abbrev S1000x512 : Shape := ⟨2, ![1000, 512]⟩
abbrev S_ : Shape := ⟨0, ![]⟩

class Facts : Prop where
  bcast_S_S16384 : S_.BroadcastsInDim S16384 (![] : Fin 0 → Fin S16384.rank)
  bcast_S_S16384x1000 : S_.BroadcastsInDim S16384x1000 (![] : Fin 0 → Fin S16384x1000.rank)
  bcast_S_S16384x512 : S_.BroadcastsInDim S16384x512 (![] : Fin 0 → Fin S16384x512.rank)
  bcast_S_S1000x512 : S_.BroadcastsInDim S1000x512 (![] : Fin 0 → Fin S1000x512.rank)

variable [Facts]

def fn {F : FTy → Type} [FloatOps F] (main_arg0 : FVec F S16384x1000 .f32) (main_arg1 : FVec F S16384x512 .f32) (main_arg2 : IVec S16384 32) (main_arg3 : FVec F S1000x512 .f32) : IVec S16384 1 × IVec S16384x1000 1 × IVec S16384x512 1 × IVec S1000x512 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 32 := constantI S_ 32 1000#32
  let main_v2 : IVec S16384 32 := broadcastInDim S16384 ![] bcast_S_S16384 main_c_0
  let main_v3 : IVec S16384 1 := cmpi .slt main_arg2 main_v2
  let main_v4 : IVec S16384 1 := andi main_v1 main_v3
  let main_v5 : FVec F S16384x1000 .f32 := Host.absf main_arg0
  let main_cst : FVec F S_ .f32 := constant S_ .f32 0x7F800000#32
  let main_v6 : FVec F S16384x1000 .f32 := broadcastInDim S16384x1000 ![] bcast_S_S16384x1000 main_cst
  let main_v7 : IVec S16384x1000 1 := cmpf .olt main_v5 main_v6
  let main_v8 : FVec F S16384x512 .f32 := Host.absf main_arg1
  let main_cst_1 : FVec F S_ .f32 := constant S_ .f32 0x7F800000#32
  let main_v9 : FVec F S16384x512 .f32 := broadcastInDim S16384x512 ![] bcast_S_S16384x512 main_cst_1
  let main_v10 : IVec S16384x512 1 := cmpf .olt main_v8 main_v9
  let main_v11 : FVec F S1000x512 .f32 := Host.absf main_arg3
  let main_cst_2 : FVec F S_ .f32 := constant S_ .f32 0x7F800000#32
  let main_v12 : FVec F S1000x512 .f32 := broadcastInDim S1000x512 ![] bcast_S_S1000x512 main_cst_2
  let main_v13 : IVec S1000x512 1 := cmpf .olt main_v11 main_v12
  (main_v4, main_v7, main_v10, main_v13)
-- ==== Kernel.lean ====
abbrev S16384x1000 : Shape := ⟨2, ![16384, 1000]⟩
abbrev S16384x512 : Shape := ⟨2, ![16384, 512]⟩
abbrev S16384 : Shape := ⟨1, ![16384]⟩
abbrev S1000x512 : Shape := ⟨2, ![1000, 512]⟩
abbrev S8x1x2048 : Shape := ⟨3, ![8, 1, 2048]⟩
abbrev S32x16 : Shape := ⟨2, ![32, 16]⟩
abbrev S64x512 : Shape := ⟨2, ![64, 512]⟩
abbrev S16 : Shape := ⟨1, ![16]⟩
abbrev S_ : Shape := ⟨0, ![]⟩
abbrev S1x16 : Shape := ⟨2, ![1, 16]⟩
abbrev S1000x16384 : Shape := ⟨2, ![1000, 16384]⟩
abbrev S1x2 : Shape := ⟨2, ![1, 2]⟩
abbrev S1000x2048 : Shape := ⟨2, ![1000, 2048]⟩
abbrev S1x1x2048 : Shape := ⟨3, ![1, 1, 2048]⟩
abbrev S2 : Shape := ⟨1, ![2]⟩
abbrev S2048 : Shape := ⟨1, ![2048]⟩
abbrev S1x2048 : Shape := ⟨2, ![1, 2048]⟩
abbrev S1 : Shape := ⟨1, ![1]⟩
abbrev S1x1x1 : Shape := ⟨3, ![1, 1, 1]⟩
abbrev S1x1000x2048 : Shape := ⟨3, ![1, 1000, 2048]⟩
abbrev S1000 : Shape := ⟨1, ![1000]⟩
abbrev S1000x1 : Shape := ⟨2, ![1000, 1]⟩
abbrev S1x1000x1 : Shape := ⟨3, ![1, 1000, 1]⟩
abbrev S1x1 : Shape := ⟨2, ![1, 1]⟩

abbrev nBuf : Table → Nat
  | .hbm => 20
  | .local .tc .vmem => 5
  | .local .tc .smem => 2
  | .local .scVector .vmem => 3
  | _ => 0

abbrev bufTy : (tb : Table) → Fin (nBuf tb) → BufTy
  | .hbm, ⟨0, _⟩ => ⟨S16384x1000, .f32⟩
  | .hbm, ⟨1, _⟩ => ⟨S16384x512, .f32⟩
  | .hbm, ⟨2, _⟩ => ⟨S16384, .i32⟩
  | .hbm, ⟨3, _⟩ => ⟨S1000x512, .f32⟩
  | .hbm, ⟨4, _⟩ => ⟨S8x1x2048, .i32⟩
  | .hbm, ⟨5, _⟩ => ⟨S32x16, .f32⟩
  | .hbm, ⟨6, _⟩ => ⟨S1000x16384, .f32⟩
  | .hbm, ⟨7, _⟩ => ⟨S1x2, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local .tc .vmem, ⟨0, _⟩ => ⟨S1000x2048, .f32⟩
  | .local .tc .vmem, ⟨1, _⟩ => ⟨S1000x2048, .f32⟩
  | .local .tc .vmem, ⟨2, _⟩ => ⟨S1x1x2048, .i32⟩
  | .local .tc .vmem, ⟨3, _⟩ => ⟨S1x1x2048, .i32⟩
  | .local .tc .vmem, ⟨4, _⟩ => ⟨S1000x512, .f32⟩
  | .local .tc .smem, ⟨0, _⟩ => ⟨S1x2, .f32⟩
  | .local .tc .smem, ⟨1, _⟩ => ⟨S2, .f32⟩
  | .local .scVector .vmem, ⟨0, _⟩ => ⟨S64x512, .f32⟩
  | .local .scVector .vmem, ⟨1, _⟩ => ⟨S64x512, .f32⟩
  | .local .scVector .vmem, ⟨2, _⟩ => ⟨S16, .f32⟩
  | _, _ => ⟨S16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_arg1_scv : Ref sig .scVector := ⟨.hbm, 1, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.smem, 0, rfl⟩
abbrev cc1_scratch0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  ![v2.toNat, 0]
def k0_off2 (i : grid0.Coords) (c64_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v6 : BitVec 32 := Scalar.addi v2 c64_i32
  let c0_i32_1 : BitVec 32 := 0#32
  ![v6.toNat, 0]
@[reducible] def k0_t1_loop : Scf.Loop 32 :=
  let c0_i32_5 : BitVec 32 := 0#32
  let c64_i32_6 : BitVec 32 := 64#32
  let v11 : BitVec 32 := Scalar.addi c0_i32_5 c64_i32_6
  let c1_i32 : BitVec 32 := 1#32
  ⟨c0_i32_5, v11, c1_i32⟩
def k0_off3 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v65 : Index := Scalar.indexCast arg9
  let c0_62 : Index := 0#32
  ![v65.toNat, 0]
def k0_off4 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v69 : Index := Scalar.indexCast arg9
  let c16 : Index := 16#32
  ![v69.toNat, 16]
def k0_off5 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v73 : Index := Scalar.indexCast arg9
  let c32 : Index := 32#32
  ![v73.toNat, 32]
def k0_off6 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v77 : Index := Scalar.indexCast arg9
  let c48 : Index := 48#32
  ![v77.toNat, 48]
def k0_off7 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v81 : Index := Scalar.indexCast arg9
  let c64 : Index := 64#32
  ![v81.toNat, 64]
def k0_off8 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v85 : Index := Scalar.indexCast arg9
  let c80 : Index := 80#32
  ![v85.toNat, 80]
def k0_off9 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v89 : Index := Scalar.indexCast arg9
  let c96 : Index := 96#32
  ![v89.toNat, 96]
def k0_off10 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v93 : Index := Scalar.indexCast arg9
  let c112 : Index := 112#32
  ![v93.toNat, 112]
def k0_off11 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v97 : Index := Scalar.indexCast arg9
  let c128 : Index := 128#32
  ![v97.toNat, 128]
def k0_off12 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v101 : Index := Scalar.indexCast arg9
  let c144 : Index := 144#32
  ![v101.toNat, 144]
def k0_off13 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v105 : Index := Scalar.indexCast arg9
  let c160 : Index := 160#32
  ![v105.toNat, 160]
def k0_off14 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v109 : Index := Scalar.indexCast arg9
  let c176 : Index := 176#32
  ![v109.toNat, 176]
def k0_off15 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v113 : Index := Scalar.indexCast arg9
  let c192 : Index := 192#32
  ![v113.toNat, 192]
def k0_off16 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v117 : Index := Scalar.indexCast arg9
  let c208 : Index := 208#32
  ![v117.toNat, 208]
def k0_off17 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v121 : Index := Scalar.indexCast arg9
  let c224 : Index := 224#32
  ![v121.toNat, 224]
def k0_off18 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v125 : Index := Scalar.indexCast arg9
  let c240 : Index := 240#32
  ![v125.toNat, 240]
def k0_off19 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v129 : Index := Scalar.indexCast arg9
  let c256 : Index := 256#32
  ![v129.toNat, 256]
def k0_off20 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v133 : Index := Scalar.indexCast arg9
  let c272 : Index := 272#32
  ![v133.toNat, 272]
def k0_off21 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v137 : Index := Scalar.indexCast arg9
  let c288 : Index := 288#32
  ![v137.toNat, 288]
def k0_off22 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v141 : Index := Scalar.indexCast arg9
  let c304 : Index := 304#32
  ![v141.toNat, 304]
def k0_off23 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v145 : Index := Scalar.indexCast arg9
  let c320 : Index := 320#32
  ![v145.toNat, 320]
def k0_off24 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v149 : Index := Scalar.indexCast arg9
  let c336 : Index := 336#32
  ![v149.toNat, 336]
def k0_off25 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v153 : Index := Scalar.indexCast arg9
  let c352 : Index := 352#32
  ![v153.toNat, 352]
def k0_off26 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v157 : Index := Scalar.indexCast arg9
  let c368 : Index := 368#32
  ![v157.toNat, 368]
def k0_off27 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v161 : Index := Scalar.indexCast arg9
  let c384 : Index := 384#32
  ![v161.toNat, 384]
def k0_off28 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v165 : Index := Scalar.indexCast arg9
  let c400 : Index := 400#32
  ![v165.toNat, 400]
def k0_off29 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v169 : Index := Scalar.indexCast arg9
  let c416 : Index := 416#32
  ![v169.toNat, 416]
def k0_off30 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v173 : Index := Scalar.indexCast arg9
  let c432 : Index := 432#32
  ![v173.toNat, 432]
def k0_off31 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v177 : Index := Scalar.indexCast arg9
  let c448 : Index := 448#32
  ![v177.toNat, 448]
def k0_off32 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v181 : Index := Scalar.indexCast arg9
  let c464 : Index := 464#32
  ![v181.toNat, 464]
def k0_off33 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v185 : Index := Scalar.indexCast arg9
  let c480 : Index := 480#32
  ![v185.toNat, 480]
def k0_off34 (k0_t1 : Fin k0_t1_loop.trips) : Fin 2 → Nat :=
  let c0_i32_5 : BitVec 32 := 0#32
  let c1_i32 : BitVec 32 := 1#32
  let arg9 : BitVec 32 := Scf.iv c0_i32_5 c1_i32 k0_t1
  let v189 : Index := Scalar.indexCast arg9
  let c496 : Index := 496#32
  ![v189.toNat, 496]
@[reducible] def k0_t2_loop : Scf.Loop 32 :=
  let c0_i32_12 : BitVec 32 := 0#32
  let c64_i32_13 : BitVec 32 := 64#32
  let v18 : BitVec 32 := Scalar.addi c0_i32_12 c64_i32_13
  let c1_i32_14 : BitVec 32 := 1#32
  ⟨c0_i32_12, v18, c1_i32_14⟩
def k0_off35 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v65 : Index := Scalar.indexCast arg9
  let c0_62 : Index := 0#32
  ![v65.toNat, 0]
def k0_off36 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v69 : Index := Scalar.indexCast arg9
  let c16 : Index := 16#32
  ![v69.toNat, 16]
def k0_off37 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v73 : Index := Scalar.indexCast arg9
  let c32 : Index := 32#32
  ![v73.toNat, 32]
def k0_off38 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v77 : Index := Scalar.indexCast arg9
  let c48 : Index := 48#32
  ![v77.toNat, 48]
def k0_off39 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v81 : Index := Scalar.indexCast arg9
  let c64 : Index := 64#32
  ![v81.toNat, 64]
def k0_off40 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v85 : Index := Scalar.indexCast arg9
  let c80 : Index := 80#32
  ![v85.toNat, 80]
def k0_off41 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v89 : Index := Scalar.indexCast arg9
  let c96 : Index := 96#32
  ![v89.toNat, 96]
def k0_off42 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v93 : Index := Scalar.indexCast arg9
  let c112 : Index := 112#32
  ![v93.toNat, 112]
def k0_off43 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v97 : Index := Scalar.indexCast arg9
  let c128 : Index := 128#32
  ![v97.toNat, 128]
def k0_off44 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v101 : Index := Scalar.indexCast arg9
  let c144 : Index := 144#32
  ![v101.toNat, 144]
def k0_off45 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v105 : Index := Scalar.indexCast arg9
  let c160 : Index := 160#32
  ![v105.toNat, 160]
def k0_off46 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v109 : Index := Scalar.indexCast arg9
  let c176 : Index := 176#32
  ![v109.toNat, 176]
def k0_off47 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v113 : Index := Scalar.indexCast arg9
  let c192 : Index := 192#32
  ![v113.toNat, 192]
def k0_off48 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v117 : Index := Scalar.indexCast arg9
  let c208 : Index := 208#32
  ![v117.toNat, 208]
def k0_off49 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v121 : Index := Scalar.indexCast arg9
  let c224 : Index := 224#32
  ![v121.toNat, 224]
def k0_off50 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v125 : Index := Scalar.indexCast arg9
  let c240 : Index := 240#32
  ![v125.toNat, 240]
def k0_off51 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v129 : Index := Scalar.indexCast arg9
  let c256 : Index := 256#32
  ![v129.toNat, 256]
def k0_off52 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v133 : Index := Scalar.indexCast arg9
  let c272 : Index := 272#32
  ![v133.toNat, 272]
def k0_off53 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v137 : Index := Scalar.indexCast arg9
  let c288 : Index := 288#32
  ![v137.toNat, 288]
def k0_off54 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v141 : Index := Scalar.indexCast arg9
  let c304 : Index := 304#32
  ![v141.toNat, 304]
def k0_off55 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v145 : Index := Scalar.indexCast arg9
  let c320 : Index := 320#32
  ![v145.toNat, 320]
def k0_off56 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v149 : Index := Scalar.indexCast arg9
  let c336 : Index := 336#32
  ![v149.toNat, 336]
def k0_off57 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v153 : Index := Scalar.indexCast arg9
  let c352 : Index := 352#32
  ![v153.toNat, 352]
def k0_off58 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v157 : Index := Scalar.indexCast arg9
  let c368 : Index := 368#32
  ![v157.toNat, 368]
def k0_off59 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v161 : Index := Scalar.indexCast arg9
  let c384 : Index := 384#32
  ![v161.toNat, 384]
def k0_off60 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v165 : Index := Scalar.indexCast arg9
  let c400 : Index := 400#32
  ![v165.toNat, 400]
def k0_off61 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v169 : Index := Scalar.indexCast arg9
  let c416 : Index := 416#32
  ![v169.toNat, 416]
def k0_off62 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v173 : Index := Scalar.indexCast arg9
  let c432 : Index := 432#32
  ![v173.toNat, 432]
def k0_off63 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v177 : Index := Scalar.indexCast arg9
  let c448 : Index := 448#32
  ![v177.toNat, 448]
def k0_off64 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v181 : Index := Scalar.indexCast arg9
  let c464 : Index := 464#32
  ![v181.toNat, 464]
def k0_off65 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v185 : Index := Scalar.indexCast arg9
  let c480 : Index := 480#32
  ![v185.toNat, 480]
def k0_off66 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v189 : Index := Scalar.indexCast arg9
  let c496 : Index := 496#32
  ![v189.toNat, 496]
@[reducible] def k0_t3_loop : Scf.Loop 32 :=
  let c0_i32_20 : BitVec 32 := 0#32
  let c64_i32_21 : BitVec 32 := 64#32
  let v25 : BitVec 32 := Scalar.addi c0_i32_20 c64_i32_21
  let c1_i32_22 : BitVec 32 := 1#32
  ⟨c0_i32_20, v25, c1_i32_22⟩
def k0_off67 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v65 : Index := Scalar.indexCast arg9
  let c0_62 : Index := 0#32
  ![v65.toNat, 0]
def k0_off68 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v69 : Index := Scalar.indexCast arg9
  let c16 : Index := 16#32
  ![v69.toNat, 16]
def k0_off69 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v73 : Index := Scalar.indexCast arg9
  let c32 : Index := 32#32
  ![v73.toNat, 32]
def k0_off70 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v77 : Index := Scalar.indexCast arg9
  let c48 : Index := 48#32
  ![v77.toNat, 48]
def k0_off71 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v81 : Index := Scalar.indexCast arg9
  let c64 : Index := 64#32
  ![v81.toNat, 64]
def k0_off72 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v85 : Index := Scalar.indexCast arg9
  let c80 : Index := 80#32
  ![v85.toNat, 80]
def k0_off73 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v89 : Index := Scalar.indexCast arg9
  let c96 : Index := 96#32
  ![v89.toNat, 96]
def k0_off74 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v93 : Index := Scalar.indexCast arg9
  let c112 : Index := 112#32
  ![v93.toNat, 112]
def k0_off75 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v97 : Index := Scalar.indexCast arg9
  let c128 : Index := 128#32
  ![v97.toNat, 128]
def k0_off76 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v101 : Index := Scalar.indexCast arg9
  let c144 : Index := 144#32
  ![v101.toNat, 144]
def k0_off77 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v105 : Index := Scalar.indexCast arg9
  let c160 : Index := 160#32
  ![v105.toNat, 160]
def k0_off78 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v109 : Index := Scalar.indexCast arg9
  let c176 : Index := 176#32
  ![v109.toNat, 176]
def k0_off79 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v113 : Index := Scalar.indexCast arg9
  let c192 : Index := 192#32
  ![v113.toNat, 192]
def k0_off80 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v117 : Index := Scalar.indexCast arg9
  let c208 : Index := 208#32
  ![v117.toNat, 208]
def k0_off81 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v121 : Index := Scalar.indexCast arg9
  let c224 : Index := 224#32
  ![v121.toNat, 224]
def k0_off82 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v125 : Index := Scalar.indexCast arg9
  let c240 : Index := 240#32
  ![v125.toNat, 240]
def k0_off83 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v129 : Index := Scalar.indexCast arg9
  let c256 : Index := 256#32
  ![v129.toNat, 256]
def k0_off84 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v133 : Index := Scalar.indexCast arg9
  let c272 : Index := 272#32
  ![v133.toNat, 272]
def k0_off85 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v137 : Index := Scalar.indexCast arg9
  let c288 : Index := 288#32
  ![v137.toNat, 288]
def k0_off86 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v141 : Index := Scalar.indexCast arg9
  let c304 : Index := 304#32
  ![v141.toNat, 304]
def k0_off87 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v145 : Index := Scalar.indexCast arg9
  let c320 : Index := 320#32
  ![v145.toNat, 320]
def k0_off88 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v149 : Index := Scalar.indexCast arg9
  let c336 : Index := 336#32
  ![v149.toNat, 336]
def k0_off89 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v153 : Index := Scalar.indexCast arg9
  let c352 : Index := 352#32
  ![v153.toNat, 352]
def k0_off90 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v157 : Index := Scalar.indexCast arg9
  let c368 : Index := 368#32
  ![v157.toNat, 368]
def k0_off91 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v161 : Index := Scalar.indexCast arg9
  let c384 : Index := 384#32
  ![v161.toNat, 384]
def k0_off92 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v165 : Index := Scalar.indexCast arg9
  let c400 : Index := 400#32
  ![v165.toNat, 400]
def k0_off93 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v169 : Index := Scalar.indexCast arg9
  let c416 : Index := 416#32
  ![v169.toNat, 416]
def k0_off94 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v173 : Index := Scalar.indexCast arg9
  let c432 : Index := 432#32
  ![v173.toNat, 432]
def k0_off95 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v177 : Index := Scalar.indexCast arg9
  let c448 : Index := 448#32
  ![v177.toNat, 448]
def k0_off96 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v181 : Index := Scalar.indexCast arg9
  let c464 : Index := 464#32
  ![v181.toNat, 464]
def k0_off97 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v185 : Index := Scalar.indexCast arg9
  let c480 : Index := 480#32
  ![v185.toNat, 480]
def k0_off98 (k0_t3 : Fin k0_t3_loop.trips) : Fin 2 → Nat :=
  let c0_i32_20 : BitVec 32 := 0#32
  let c1_i32_22 : BitVec 32 := 1#32
  let arg9 : BitVec 32 := Scf.iv c0_i32_20 c1_i32_22 k0_t3
  let v189 : Index := Scalar.indexCast arg9
  let c496 : Index := 496#32
  ![v189.toNat, 496]
@[reducible] def k0_t4_loop : Scf.Loop 32 :=
  let c0_i32_28 : BitVec 32 := 0#32
  let c64_i32_29 : BitVec 32 := 64#32
  let v32 : BitVec 32 := Scalar.addi c0_i32_28 c64_i32_29
  let c1_i32_30 : BitVec 32 := 1#32
  ⟨c0_i32_28, v32, c1_i32_30⟩
def k0_off99 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v65 : Index := Scalar.indexCast arg9
  let c0_62 : Index := 0#32
  ![v65.toNat, 0]
def k0_off100 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v69 : Index := Scalar.indexCast arg9
  let c16 : Index := 16#32
  ![v69.toNat, 16]
def k0_off101 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v73 : Index := Scalar.indexCast arg9
  let c32 : Index := 32#32
  ![v73.toNat, 32]
def k0_off102 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v77 : Index := Scalar.indexCast arg9
  let c48 : Index := 48#32
  ![v77.toNat, 48]
def k0_off103 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v81 : Index := Scalar.indexCast arg9
  let c64 : Index := 64#32
  ![v81.toNat, 64]
def k0_off104 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v85 : Index := Scalar.indexCast arg9
  let c80 : Index := 80#32
  ![v85.toNat, 80]
def k0_off105 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v89 : Index := Scalar.indexCast arg9
  let c96 : Index := 96#32
  ![v89.toNat, 96]
def k0_off106 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v93 : Index := Scalar.indexCast arg9
  let c112 : Index := 112#32
  ![v93.toNat, 112]
def k0_off107 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v97 : Index := Scalar.indexCast arg9
  let c128 : Index := 128#32
  ![v97.toNat, 128]
def k0_off108 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v101 : Index := Scalar.indexCast arg9
  let c144 : Index := 144#32
  ![v101.toNat, 144]
def k0_off109 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v105 : Index := Scalar.indexCast arg9
  let c160 : Index := 160#32
  ![v105.toNat, 160]
def k0_off110 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v109 : Index := Scalar.indexCast arg9
  let c176 : Index := 176#32
  ![v109.toNat, 176]
def k0_off111 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v113 : Index := Scalar.indexCast arg9
  let c192 : Index := 192#32
  ![v113.toNat, 192]
def k0_off112 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v117 : Index := Scalar.indexCast arg9
  let c208 : Index := 208#32
  ![v117.toNat, 208]
def k0_off113 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v121 : Index := Scalar.indexCast arg9
  let c224 : Index := 224#32
  ![v121.toNat, 224]
def k0_off114 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v125 : Index := Scalar.indexCast arg9
  let c240 : Index := 240#32
  ![v125.toNat, 240]
def k0_off115 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v129 : Index := Scalar.indexCast arg9
  let c256 : Index := 256#32
  ![v129.toNat, 256]
def k0_off116 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v133 : Index := Scalar.indexCast arg9
  let c272 : Index := 272#32
  ![v133.toNat, 272]
def k0_off117 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v137 : Index := Scalar.indexCast arg9
  let c288 : Index := 288#32
  ![v137.toNat, 288]
def k0_off118 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v141 : Index := Scalar.indexCast arg9
  let c304 : Index := 304#32
  ![v141.toNat, 304]
def k0_off119 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v145 : Index := Scalar.indexCast arg9
  let c320 : Index := 320#32
  ![v145.toNat, 320]
def k0_off120 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v149 : Index := Scalar.indexCast arg9
  let c336 : Index := 336#32
  ![v149.toNat, 336]
def k0_off121 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v153 : Index := Scalar.indexCast arg9
  let c352 : Index := 352#32
  ![v153.toNat, 352]
def k0_off122 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v157 : Index := Scalar.indexCast arg9
  let c368 : Index := 368#32
  ![v157.toNat, 368]
def k0_off123 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v161 : Index := Scalar.indexCast arg9
  let c384 : Index := 384#32
  ![v161.toNat, 384]
def k0_off124 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v165 : Index := Scalar.indexCast arg9
  let c400 : Index := 400#32
  ![v165.toNat, 400]
def k0_off125 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v169 : Index := Scalar.indexCast arg9
  let c416 : Index := 416#32
  ![v169.toNat, 416]
def k0_off126 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v173 : Index := Scalar.indexCast arg9
  let c432 : Index := 432#32
  ![v173.toNat, 432]
def k0_off127 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v177 : Index := Scalar.indexCast arg9
  let c448 : Index := 448#32
  ![v177.toNat, 448]
def k0_off128 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v181 : Index := Scalar.indexCast arg9
  let c464 : Index := 464#32
  ![v181.toNat, 464]
def k0_off129 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v185 : Index := Scalar.indexCast arg9
  let c480 : Index := 480#32
  ![v185.toNat, 480]
def k0_off130 (k0_t4 : Fin k0_t4_loop.trips) : Fin 2 → Nat :=
  let c0_i32_28 : BitVec 32 := 0#32
  let c1_i32_30 : BitVec 32 := 1#32
  let arg9 : BitVec 32 := Scf.iv c0_i32_28 c1_i32_30 k0_t4
  let v189 : Index := Scalar.indexCast arg9
  let c496 : Index := 496#32
  ![v189.toNat, 496]
@[reducible] def k0_t5_loop : Scf.Loop 32 :=
  let c0_i32_36 : BitVec 32 := 0#32
  let c64_i32_37 : BitVec 32 := 64#32
  let v39 : BitVec 32 := Scalar.addi c0_i32_36 c64_i32_37
  let c1_i32_38 : BitVec 32 := 1#32
  ⟨c0_i32_36, v39, c1_i32_38⟩
def k0_off131 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v65 : Index := Scalar.indexCast arg9
  let c0_62 : Index := 0#32
  ![v65.toNat, 0]
def k0_off132 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v69 : Index := Scalar.indexCast arg9
  let c16 : Index := 16#32
  ![v69.toNat, 16]
def k0_off133 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v73 : Index := Scalar.indexCast arg9
  let c32 : Index := 32#32
  ![v73.toNat, 32]
def k0_off134 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v77 : Index := Scalar.indexCast arg9
  let c48 : Index := 48#32
  ![v77.toNat, 48]
def k0_off135 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v81 : Index := Scalar.indexCast arg9
  let c64 : Index := 64#32
  ![v81.toNat, 64]
def k0_off136 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v85 : Index := Scalar.indexCast arg9
  let c80 : Index := 80#32
  ![v85.toNat, 80]
def k0_off137 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v89 : Index := Scalar.indexCast arg9
  let c96 : Index := 96#32
  ![v89.toNat, 96]
def k0_off138 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v93 : Index := Scalar.indexCast arg9
  let c112 : Index := 112#32
  ![v93.toNat, 112]
def k0_off139 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v97 : Index := Scalar.indexCast arg9
  let c128 : Index := 128#32
  ![v97.toNat, 128]
def k0_off140 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v101 : Index := Scalar.indexCast arg9
  let c144 : Index := 144#32
  ![v101.toNat, 144]
def k0_off141 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v105 : Index := Scalar.indexCast arg9
  let c160 : Index := 160#32
  ![v105.toNat, 160]
def k0_off142 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v109 : Index := Scalar.indexCast arg9
  let c176 : Index := 176#32
  ![v109.toNat, 176]
def k0_off143 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v113 : Index := Scalar.indexCast arg9
  let c192 : Index := 192#32
  ![v113.toNat, 192]
def k0_off144 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v117 : Index := Scalar.indexCast arg9
  let c208 : Index := 208#32
  ![v117.toNat, 208]
def k0_off145 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v121 : Index := Scalar.indexCast arg9
  let c224 : Index := 224#32
  ![v121.toNat, 224]
def k0_off146 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v125 : Index := Scalar.indexCast arg9
  let c240 : Index := 240#32
  ![v125.toNat, 240]
def k0_off147 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v129 : Index := Scalar.indexCast arg9
  let c256 : Index := 256#32
  ![v129.toNat, 256]
def k0_off148 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v133 : Index := Scalar.indexCast arg9
  let c272 : Index := 272#32
  ![v133.toNat, 272]
def k0_off149 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v137 : Index := Scalar.indexCast arg9
  let c288 : Index := 288#32
  ![v137.toNat, 288]
def k0_off150 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v141 : Index := Scalar.indexCast arg9
  let c304 : Index := 304#32
  ![v141.toNat, 304]
def k0_off151 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v145 : Index := Scalar.indexCast arg9
  let c320 : Index := 320#32
  ![v145.toNat, 320]
def k0_off152 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v149 : Index := Scalar.indexCast arg9
  let c336 : Index := 336#32
  ![v149.toNat, 336]
def k0_off153 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v153 : Index := Scalar.indexCast arg9
  let c352 : Index := 352#32
  ![v153.toNat, 352]
def k0_off154 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v157 : Index := Scalar.indexCast arg9
  let c368 : Index := 368#32
  ![v157.toNat, 368]
def k0_off155 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v161 : Index := Scalar.indexCast arg9
  let c384 : Index := 384#32
  ![v161.toNat, 384]
def k0_off156 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v165 : Index := Scalar.indexCast arg9
  let c400 : Index := 400#32
  ![v165.toNat, 400]
def k0_off157 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v169 : Index := Scalar.indexCast arg9
  let c416 : Index := 416#32
  ![v169.toNat, 416]
def k0_off158 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v173 : Index := Scalar.indexCast arg9
  let c432 : Index := 432#32
  ![v173.toNat, 432]
def k0_off159 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v177 : Index := Scalar.indexCast arg9
  let c448 : Index := 448#32
  ![v177.toNat, 448]
def k0_off160 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v181 : Index := Scalar.indexCast arg9
  let c464 : Index := 464#32
  ![v181.toNat, 464]
def k0_off161 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v185 : Index := Scalar.indexCast arg9
  let c480 : Index := 480#32
  ![v185.toNat, 480]
def k0_off162 (k0_t5 : Fin k0_t5_loop.trips) : Fin 2 → Nat :=
  let c0_i32_36 : BitVec 32 := 0#32
  let c1_i32_38 : BitVec 32 := 1#32
  let arg9 : BitVec 32 := Scf.iv c0_i32_36 c1_i32_38 k0_t5
  let v189 : Index := Scalar.indexCast arg9
  let c496 : Index := 496#32
  ![v189.toNat, 496]
@[reducible] def k0_t6_loop : Scf.Loop 32 :=
  let c0_i32_44 : BitVec 32 := 0#32
  let c64_i32_45 : BitVec 32 := 64#32
  let v46 : BitVec 32 := Scalar.addi c0_i32_44 c64_i32_45
  let c1_i32_46 : BitVec 32 := 1#32
  ⟨c0_i32_44, v46, c1_i32_46⟩
def k0_off163 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v65 : Index := Scalar.indexCast arg9
  let c0_62 : Index := 0#32
  ![v65.toNat, 0]
def k0_off164 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v69 : Index := Scalar.indexCast arg9
  let c16 : Index := 16#32
  ![v69.toNat, 16]
def k0_off165 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v73 : Index := Scalar.indexCast arg9
  let c32 : Index := 32#32
  ![v73.toNat, 32]
def k0_off166 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v77 : Index := Scalar.indexCast arg9
  let c48 : Index := 48#32
  ![v77.toNat, 48]
def k0_off167 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v81 : Index := Scalar.indexCast arg9
  let c64 : Index := 64#32
  ![v81.toNat, 64]
def k0_off168 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v85 : Index := Scalar.indexCast arg9
  let c80 : Index := 80#32
  ![v85.toNat, 80]
def k0_off169 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v89 : Index := Scalar.indexCast arg9
  let c96 : Index := 96#32
  ![v89.toNat, 96]
def k0_off170 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v93 : Index := Scalar.indexCast arg9
  let c112 : Index := 112#32
  ![v93.toNat, 112]
def k0_off171 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v97 : Index := Scalar.indexCast arg9
  let c128 : Index := 128#32
  ![v97.toNat, 128]
def k0_off172 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v101 : Index := Scalar.indexCast arg9
  let c144 : Index := 144#32
  ![v101.toNat, 144]
def k0_off173 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v105 : Index := Scalar.indexCast arg9
  let c160 : Index := 160#32
  ![v105.toNat, 160]
def k0_off174 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v109 : Index := Scalar.indexCast arg9
  let c176 : Index := 176#32
  ![v109.toNat, 176]
def k0_off175 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v113 : Index := Scalar.indexCast arg9
  let c192 : Index := 192#32
  ![v113.toNat, 192]
def k0_off176 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v117 : Index := Scalar.indexCast arg9
  let c208 : Index := 208#32
  ![v117.toNat, 208]
def k0_off177 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v121 : Index := Scalar.indexCast arg9
  let c224 : Index := 224#32
  ![v121.toNat, 224]
def k0_off178 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v125 : Index := Scalar.indexCast arg9
  let c240 : Index := 240#32
  ![v125.toNat, 240]
def k0_off179 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v129 : Index := Scalar.indexCast arg9
  let c256 : Index := 256#32
  ![v129.toNat, 256]
def k0_off180 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v133 : Index := Scalar.indexCast arg9
  let c272 : Index := 272#32
  ![v133.toNat, 272]
def k0_off181 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v137 : Index := Scalar.indexCast arg9
  let c288 : Index := 288#32
  ![v137.toNat, 288]
def k0_off182 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v141 : Index := Scalar.indexCast arg9
  let c304 : Index := 304#32
  ![v141.toNat, 304]
def k0_off183 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v145 : Index := Scalar.indexCast arg9
  let c320 : Index := 320#32
  ![v145.toNat, 320]
def k0_off184 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v149 : Index := Scalar.indexCast arg9
  let c336 : Index := 336#32
  ![v149.toNat, 336]
def k0_off185 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v153 : Index := Scalar.indexCast arg9
  let c352 : Index := 352#32
  ![v153.toNat, 352]
def k0_off186 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v157 : Index := Scalar.indexCast arg9
  let c368 : Index := 368#32
  ![v157.toNat, 368]
def k0_off187 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v161 : Index := Scalar.indexCast arg9
  let c384 : Index := 384#32
  ![v161.toNat, 384]
def k0_off188 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v165 : Index := Scalar.indexCast arg9
  let c400 : Index := 400#32
  ![v165.toNat, 400]
def k0_off189 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v169 : Index := Scalar.indexCast arg9
  let c416 : Index := 416#32
  ![v169.toNat, 416]
def k0_off190 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v173 : Index := Scalar.indexCast arg9
  let c432 : Index := 432#32
  ![v173.toNat, 432]
def k0_off191 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v177 : Index := Scalar.indexCast arg9
  let c448 : Index := 448#32
  ![v177.toNat, 448]
def k0_off192 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v181 : Index := Scalar.indexCast arg9
  let c464 : Index := 464#32
  ![v181.toNat, 464]
def k0_off193 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v185 : Index := Scalar.indexCast arg9
  let c480 : Index := 480#32
  ![v185.toNat, 480]
def k0_off194 (k0_t6 : Fin k0_t6_loop.trips) : Fin 2 → Nat :=
  let c0_i32_44 : BitVec 32 := 0#32
  let c1_i32_46 : BitVec 32 := 1#32
  let arg9 : BitVec 32 := Scf.iv c0_i32_44 c1_i32_46 k0_t6
  let v189 : Index := Scalar.indexCast arg9
  let c496 : Index := 496#32
  ![v189.toNat, 496]
@[reducible] def k0_t7_loop : Scf.Loop 32 :=
  let c0_i32_52 : BitVec 32 := 0#32
  let c64_i32_53 : BitVec 32 := 64#32
  let v53 : BitVec 32 := Scalar.addi c0_i32_52 c64_i32_53
  let c1_i32_54 : BitVec 32 := 1#32
  ⟨c0_i32_52, v53, c1_i32_54⟩
def k0_off195 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v65 : Index := Scalar.indexCast arg9
  let c0_62 : Index := 0#32
  ![v65.toNat, 0]
def k0_off196 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v69 : Index := Scalar.indexCast arg9
  let c16 : Index := 16#32
  ![v69.toNat, 16]
def k0_off197 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v73 : Index := Scalar.indexCast arg9
  let c32 : Index := 32#32
  ![v73.toNat, 32]
def k0_off198 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v77 : Index := Scalar.indexCast arg9
  let c48 : Index := 48#32
  ![v77.toNat, 48]
def k0_off199 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v81 : Index := Scalar.indexCast arg9
  let c64 : Index := 64#32
  ![v81.toNat, 64]
def k0_off200 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v85 : Index := Scalar.indexCast arg9
  let c80 : Index := 80#32
  ![v85.toNat, 80]
def k0_off201 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v89 : Index := Scalar.indexCast arg9
  let c96 : Index := 96#32
  ![v89.toNat, 96]
def k0_off202 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v93 : Index := Scalar.indexCast arg9
  let c112 : Index := 112#32
  ![v93.toNat, 112]
def k0_off203 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v97 : Index := Scalar.indexCast arg9
  let c128 : Index := 128#32
  ![v97.toNat, 128]
def k0_off204 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v101 : Index := Scalar.indexCast arg9
  let c144 : Index := 144#32
  ![v101.toNat, 144]
def k0_off205 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v105 : Index := Scalar.indexCast arg9
  let c160 : Index := 160#32
  ![v105.toNat, 160]
def k0_off206 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v109 : Index := Scalar.indexCast arg9
  let c176 : Index := 176#32
  ![v109.toNat, 176]
def k0_off207 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v113 : Index := Scalar.indexCast arg9
  let c192 : Index := 192#32
  ![v113.toNat, 192]
def k0_off208 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v117 : Index := Scalar.indexCast arg9
  let c208 : Index := 208#32
  ![v117.toNat, 208]
def k0_off209 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v121 : Index := Scalar.indexCast arg9
  let c224 : Index := 224#32
  ![v121.toNat, 224]
def k0_off210 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v125 : Index := Scalar.indexCast arg9
  let c240 : Index := 240#32
  ![v125.toNat, 240]
def k0_off211 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v129 : Index := Scalar.indexCast arg9
  let c256 : Index := 256#32
  ![v129.toNat, 256]
def k0_off212 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v133 : Index := Scalar.indexCast arg9
  let c272 : Index := 272#32
  ![v133.toNat, 272]
def k0_off213 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v137 : Index := Scalar.indexCast arg9
  let c288 : Index := 288#32
  ![v137.toNat, 288]
def k0_off214 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v141 : Index := Scalar.indexCast arg9
  let c304 : Index := 304#32
  ![v141.toNat, 304]
def k0_off215 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v145 : Index := Scalar.indexCast arg9
  let c320 : Index := 320#32
  ![v145.toNat, 320]
def k0_off216 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v149 : Index := Scalar.indexCast arg9
  let c336 : Index := 336#32
  ![v149.toNat, 336]
def k0_off217 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v153 : Index := Scalar.indexCast arg9
  let c352 : Index := 352#32
  ![v153.toNat, 352]
def k0_off218 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v157 : Index := Scalar.indexCast arg9
  let c368 : Index := 368#32
  ![v157.toNat, 368]
def k0_off219 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v161 : Index := Scalar.indexCast arg9
  let c384 : Index := 384#32
  ![v161.toNat, 384]
def k0_off220 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v165 : Index := Scalar.indexCast arg9
  let c400 : Index := 400#32
  ![v165.toNat, 400]
def k0_off221 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v169 : Index := Scalar.indexCast arg9
  let c416 : Index := 416#32
  ![v169.toNat, 416]
def k0_off222 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v173 : Index := Scalar.indexCast arg9
  let c432 : Index := 432#32
  ![v173.toNat, 432]
def k0_off223 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v177 : Index := Scalar.indexCast arg9
  let c448 : Index := 448#32
  ![v177.toNat, 448]
def k0_off224 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v181 : Index := Scalar.indexCast arg9
  let c464 : Index := 464#32
  ![v181.toNat, 464]
def k0_off225 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v185 : Index := Scalar.indexCast arg9
  let c480 : Index := 480#32
  ![v185.toNat, 480]
def k0_off226 (k0_t7 : Fin k0_t7_loop.trips) : Fin 2 → Nat :=
  let c0_i32_52 : BitVec 32 := 0#32
  let c1_i32_54 : BitVec 32 := 1#32
  let arg9 : BitVec 32 := Scf.iv c0_i32_52 c1_i32_54 k0_t7
  let v189 : Index := Scalar.indexCast arg9
  let c496 : Index := 496#32
  ![v189.toNat, 496]
@[reducible] def k0_t8_loop : Scf.Loop 32 :=
  let c0_i32_58 : BitVec 32 := 0#32
  let c64_i32_59 : BitVec 32 := 64#32
  let v57 : BitVec 32 := Scalar.addi c0_i32_58 c64_i32_59
  let c1_i32_60 : BitVec 32 := 1#32
  ⟨c0_i32_58, v57, c1_i32_60⟩
def k0_off227 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v65 : Index := Scalar.indexCast arg9
  let c0_62 : Index := 0#32
  ![v65.toNat, 0]
def k0_off228 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v69 : Index := Scalar.indexCast arg9
  let c16 : Index := 16#32
  ![v69.toNat, 16]
def k0_off229 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v73 : Index := Scalar.indexCast arg9
  let c32 : Index := 32#32
  ![v73.toNat, 32]
def k0_off230 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v77 : Index := Scalar.indexCast arg9
  let c48 : Index := 48#32
  ![v77.toNat, 48]
def k0_off231 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v81 : Index := Scalar.indexCast arg9
  let c64 : Index := 64#32
  ![v81.toNat, 64]
def k0_off232 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v85 : Index := Scalar.indexCast arg9
  let c80 : Index := 80#32
  ![v85.toNat, 80]
def k0_off233 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v89 : Index := Scalar.indexCast arg9
  let c96 : Index := 96#32
  ![v89.toNat, 96]
def k0_off234 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v93 : Index := Scalar.indexCast arg9
  let c112 : Index := 112#32
  ![v93.toNat, 112]
def k0_off235 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v97 : Index := Scalar.indexCast arg9
  let c128 : Index := 128#32
  ![v97.toNat, 128]
def k0_off236 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v101 : Index := Scalar.indexCast arg9
  let c144 : Index := 144#32
  ![v101.toNat, 144]
def k0_off237 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v105 : Index := Scalar.indexCast arg9
  let c160 : Index := 160#32
  ![v105.toNat, 160]
def k0_off238 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v109 : Index := Scalar.indexCast arg9
  let c176 : Index := 176#32
  ![v109.toNat, 176]
def k0_off239 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v113 : Index := Scalar.indexCast arg9
  let c192 : Index := 192#32
  ![v113.toNat, 192]
def k0_off240 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v117 : Index := Scalar.indexCast arg9
  let c208 : Index := 208#32
  ![v117.toNat, 208]
def k0_off241 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v121 : Index := Scalar.indexCast arg9
  let c224 : Index := 224#32
  ![v121.toNat, 224]
def k0_off242 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v125 : Index := Scalar.indexCast arg9
  let c240 : Index := 240#32
  ![v125.toNat, 240]
def k0_off243 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v129 : Index := Scalar.indexCast arg9
  let c256 : Index := 256#32
  ![v129.toNat, 256]
def k0_off244 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v133 : Index := Scalar.indexCast arg9
  let c272 : Index := 272#32
  ![v133.toNat, 272]
def k0_off245 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v137 : Index := Scalar.indexCast arg9
  let c288 : Index := 288#32
  ![v137.toNat, 288]
def k0_off246 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v141 : Index := Scalar.indexCast arg9
  let c304 : Index := 304#32
  ![v141.toNat, 304]
def k0_off247 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v145 : Index := Scalar.indexCast arg9
  let c320 : Index := 320#32
  ![v145.toNat, 320]
def k0_off248 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v149 : Index := Scalar.indexCast arg9
  let c336 : Index := 336#32
  ![v149.toNat, 336]
def k0_off249 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v153 : Index := Scalar.indexCast arg9
  let c352 : Index := 352#32
  ![v153.toNat, 352]
def k0_off250 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v157 : Index := Scalar.indexCast arg9
  let c368 : Index := 368#32
  ![v157.toNat, 368]
def k0_off251 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v161 : Index := Scalar.indexCast arg9
  let c384 : Index := 384#32
  ![v161.toNat, 384]
def k0_off252 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v165 : Index := Scalar.indexCast arg9
  let c400 : Index := 400#32
  ![v165.toNat, 400]
def k0_off253 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v169 : Index := Scalar.indexCast arg9
  let c416 : Index := 416#32
  ![v169.toNat, 416]
def k0_off254 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v173 : Index := Scalar.indexCast arg9
  let c432 : Index := 432#32
  ![v173.toNat, 432]
def k0_off255 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v177 : Index := Scalar.indexCast arg9
  let c448 : Index := 448#32
  ![v177.toNat, 448]
def k0_off256 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v181 : Index := Scalar.indexCast arg9
  let c464 : Index := 464#32
  ![v181.toNat, 464]
def k0_off257 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v185 : Index := Scalar.indexCast arg9
  let c480 : Index := 480#32
  ![v185.toNat, 480]
def k0_off258 (k0_t8 : Fin k0_t8_loop.trips) : Fin 2 → Nat :=
  let c0_i32_58 : BitVec 32 := 0#32
  let c1_i32_60 : BitVec 32 := 1#32
  let arg9 : BitVec 32 := Scf.iv c0_i32_58 c1_i32_60 k0_t8
  let v189 : Index := Scalar.indexCast arg9
  let c496 : Index := 496#32
  ![v189.toNat, 496]
def k0_off259 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_62_r0 : BitVec 32 := 0#32
  ![v1.toNat, 0]
abbrev grid1 : Pipeline.Grid := ⟨1, ![8], ![false]⟩

def k1_cond3 (i : grid1.Coords) : BitVec 1 :=
  let arg0 : BitVec 32 := BitVec.ofNat 32 (i 0).val
  let c7_i32 : BitVec 32 := 7#32
  let v45 : BitVec 1 := Scalar.cmpi .eq arg0 c7_i32
  let v46 : BitVec 32 := Scalar.extui v45
  let c0_i32_16 : BitVec 32 := 0#32
  let v47 : BitVec 1 := Scalar.cmpi .ne v46 c0_i32_16
  v47

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1000x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S16384x512 : Shape := ⟨2, ![16384, 512]⟩
abbrev S16384 : Shape := ⟨1, ![16384]⟩
abbrev S1000x512 : Shape := ⟨2, ![1000, 512]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384x512, .f32⟩
  | .hbm, ⟨2, _⟩ => ⟨S16384, .i32⟩
  | .hbm, ⟨3, _⟩ => ⟨S1000x512, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S16384x1000, .f32⟩
  | .hbm, ⟨18, _⟩ => ⟨S16384x1000, .f32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S1x1x1, .i32⟩
  | .hbm, ⟨33, _⟩ => ⟨S16384x1x1, .i32⟩
  | .hbm, ⟨34, _⟩ => ⟨S16384x1x1, .i1⟩
  | .hbm, ⟨35, _⟩ => ⟨S16384x1x1, .i1⟩
  | .hbm, ⟨36, _⟩ => ⟨S_, .i1⟩
  | .hbm, ⟨37, _⟩ => ⟨S16384x1, .i1⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .i32⟩
  | .hbm, ⟨47, _⟩ => ⟨S16384, .i32⟩
  | .hbm, ⟨48, _⟩ => ⟨S16384, .i1⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384, .i32⟩
  | .hbm, ⟨53, _⟩ => ⟨S16384x1, .i32⟩
  | .hbm, ⟨54, _⟩ => ⟨S1, .i32⟩
  | .hbm, ⟨55, _⟩ => ⟨S_, .i32⟩
  | .hbm, ⟨56, _⟩ => ⟨S16384x1, .i32⟩
  | .hbm, ⟨57, _⟩ => ⟨S16384x1, .i1⟩
  | .hbm, ⟨58, _⟩ => ⟨S1x1, .i32⟩
  | .hbm, ⟨59, _⟩ => ⟨S16384x1, .i32⟩
  | .hbm, ⟨60, _⟩ => ⟨S16384x1, .i1⟩
  | .hbm, ⟨61, _⟩ => ⟨S16384x1, .i1⟩
  | .hbm, ⟨62, _⟩ => ⟨S_, .i1⟩
  | .hbm, ⟨63, _⟩ => ⟨S16384, .i1⟩
  | .hbm, ⟨64, _⟩ => ⟨S16384x512, .f32⟩
  | .hbm, ⟨65, _⟩ => ⟨S16384x512, .i1⟩
  | .hbm, ⟨66, _⟩ => ⟨S_, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_cst : Ref sig .tc := ⟨.hbm, 43, rfl⟩
abbrev main_v4 : Ref sig .tc := ⟨.hbm, 44, rfl⟩
abbrev main_v5 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_call2_cst : Ref sig .tc := ⟨.hbm, 66, rfl⟩
abbrev main_call2_v15 : Ref sig .tc := ⟨.hbm, 67, rfl⟩
abbrev main_v6 : Ref sig .tc := ⟨.hbm, 68, rfl⟩
abbrev main_v7 : Ref sig .tc := ⟨.hbm, 69, rfl⟩
abbrev main_cst_0 : Ref sig .tc := ⟨.hbm, 70, rfl⟩
abbrev main_v8 : Ref sig .tc := ⟨.hbm, 71, rfl⟩
abbrev main_cst_1 : Ref sig .tc := ⟨.hbm, 72, rfl⟩
abbrev main_v9 : Ref sig .tc := ⟨.hbm, 73, rfl⟩
abbrev main_cst_2 : Ref sig .tc := ⟨.hbm, 74, rfl⟩
abbrev main_v10 : Ref sig .tc := ⟨.hbm, 75, rfl⟩
abbrev main_v11 : Ref sig .tc := ⟨.hbm, 76, rfl⟩

abbrev nD : Nat := 1
abbrev τ : Topo := Topo.v7x

variable {F : FTy → Type} [FloatOps F]
-- ==== Proof.Setup.lean ====
/-
  The setting of the run: the program as the launch theorem sees it, the resource algebra and the
  buffers' names.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the launch handshakes' rounds, the TensorCore pipeline's rounds, the copies' counters. -/
abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

end Cert.Proof.Run

end

end
-- ==== Proof.Row.lean ====
module

public import proofs.«01_k».proof.Proof.Setup
public import Idealize.ShloMosaic.Lib.ValueIdxCore
public import Idealize.ShloMosaic.Lib.Pipeline.Value

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

/-- The four running sums of a tile, sixteen lanes each. -/
abbrev Acc4 (F : FTy → Type) : Type := FVec F S16 .f32 × FVec F S16 .f32 × FVec F S16 .f32 × FVec F S16 .f32

/-- Sixteen entries of row `k` of a block, from column `16 c` on. -/
def seg (g : S64x512.Idx → F .f32) (k : Fin 64) (c : Fin 32) : FVec F S16 .f32 :=
  fun l => g (ValueIdx.ix2 k ⟨16 * c.val + (l 0).val, by have : (l 0).val < 16 := (l 0).isLt; omega⟩)

/-- A running sum with the segments `q, q + 4, …, q + 28` of row `k` added in order. -/
def segSum (g : S64x512.Idx → F .f32) (k : Fin 64) (q : Fin 4) (a : FVec F S16 .f32) : FVec F S16 .f32 :=
  (List.finRange 8).foldl (fun a j => addf a (seg g k ⟨4 * j.val + q.val, by omega⟩)) a

/-- One row added to the four running sums. -/
def rowStep (g : S64x512.Idx → F .f32) (k : Fin 64) (a : Acc4 F) : Acc4 F :=
  (segSum g k 0 a.1, segSum g k 1 a.2.1, segSum g k 2 a.2.2.1, segSum g k 3 a.2.2.2)

/-- The first `n` rows of a block added to the four running sums. -/
def rows (g : S64x512.Idx → F .f32) : ℕ → Acc4 F → Acc4 F
  | 0, a => a
  | n + 1, a => if h : n < 64 then rowStep g ⟨n, h⟩ (rows g n a) else rows g n a

theorem seg_read {κ : Kind} (m : Memref sig κ .vmem S64x512 .f32) (f : m.view.ty.Contents (Elt F)) (off : Fin 2 → ℕ)
    (h : ∀ a, off a + S1x16.size a ≤ S64x512.size a) (k : Fin 64) (c : Fin 32) (e : off = ![k.val, 16 * c.val]) :
    shapeCast S16 (View.readAt (Elt F) m.view (Rect.unit (s := S64x512) off S1x16.size h).toLoadRect f) shapeCasts_S1x16_S16
      = seg (m.view.read (Elt F) f) k c := by
  subst e
  funext l
  refine (shapeCast_dropUnit_apply ![16] _ shapeCasts_S1x16_S16 l).trans ?_
  refine congrArg (m.view.read (Elt F) f) ?_
  funext a
  match a with
  | ⟨0, _⟩ => exact Fin.ext (by simp [Rect.unit]; rfl)
  | ⟨1, _⟩ => exact Fin.ext (by simp [Rect.unit]; rfl)

theorem trip_row : ∀ k : Fin k0_t1_loop.trips, k0_off3 k 0 = k.val := by decide +kernel

/-- A load of a trip whose offsets start at the trip's row reads that row's segment. -/
theorem seg_at {κ : Kind} (m : Memref sig κ .vmem S64x512 .f32) (f : m.view.ty.Contents (Elt F)) (k : Fin k0_t1_loop.trips)
    (off : Fin 2 → ℕ) (h : ∀ a, off a + S1x16.size a ≤ S64x512.size a) (c : Fin 32)
    (e₀ : off 0 = k0_off3 k 0) (e₁ : off 1 = 16 * c.val) :
    shapeCast S16 (View.readAt (Elt F) m.view (Rect.unit (s := S64x512) off S1x16.size h).toLoadRect f) shapeCasts_S1x16_S16
      = seg (m.view.read (Elt F) f) k c :=
  seg_read m f off h k c (by
    funext a
    match a with
    | ⟨0, _⟩ => exact e₀.trans (trip_row k)
    | ⟨1, _⟩ => exact e₁)

/-! The eight loops run the one trip, over one buffer or the other. -/

set_option maxRecDepth 65536 in
theorem t2_body_eq : @k0_t2_body F _ = fun i a2 h2 a3 h3 a4 h4 a5 h5 a6 h6 a7 a8 r => @k0_t1_body F _ i a2 h2 a3 h3 a5 h5 a4 h4 a6 h6 a7 a8 r := by rfl
set_option maxRecDepth 65536 in
theorem t3_body_eq : @k0_t3_body F _ = fun i a2 h2 a3 h3 a4 h4 a5 h5 a6 h6 a7 a8 r _ _ _ _ _ => @k0_t1_body F _ i a2 h2 a3 h3 a4 h4 a5 h5 a6 h6 a7 a8 r := by rfl
set_option maxRecDepth 65536 in
theorem t4_body_eq : @k0_t4_body F _ = fun i a2 h2 a3 h3 a4 h4 a5 h5 a6 h6 a7 a8 r _ _ _ _ _ => @k0_t1_body F _ i a2 h2 a3 h3 a5 h5 a4 h4 a6 h6 a7 a8 r := by rfl
set_option maxRecDepth 65536 in
theorem t5_body_eq : @k0_t5_body F _ = fun i a2 h2 a3 h3 a4 h4 a5 h5 a6 h6 a7 a8 r _ _ _ _ _ => @k0_t1_body F _ i a2 h2 a3 h3 a4 h4 a5 h5 a6 h6 a7 a8 r := by rfl
set_option maxRecDepth 65536 in
theorem t6_body_eq : (fun i a2 h2 a3 h3 a4 h4 a5 h5 a6 h6 a7 a8 r => @k0_t6_body F _ i a2 h2 a3 h3 a4 h4 a5 h5 a6 h6 a7 a8 r 0#32 1#32) = fun i a2 h2 a3 h3 a4 h4 a5 h5 a6 h6 a7 a8 r => @k0_t1_body F _ i a2 h2 a3 h3 a5 h5 a4 h4 a6 h6 a7 a8 r := by rfl
set_option maxRecDepth 65536 in
theorem t7_body_eq : @k0_t7_body F _ = fun i a2 h2 a3 h3 a4 h4 a5 h5 a6 h6 a7 a8 r => @k0_t1_body F _ i a2 h2 a3 h3 a4 h4 a5 h5 a6 h6 a7 a8 r := by rfl
set_option maxRecDepth 65536 in
theorem t8_body_eq : @k0_t8_body F _ = fun i a2 h2 a3 h3 a4 h4 a5 h5 a6 h6 a7 a8 r => @k0_t1_body F _ i a2 h2 a3 h3 a5 h5 a4 h4 a6 h6 a7 a8 r := by rfl

variable (d : Dev nD) (L : grid0.Coords)

/-- One trip of the loop over a block: the row is added to the four sums, the block unchanged. -/
theorem row_wp (a2 : Memref sig .scVector .hbm S16384x512 .f32) (h2) (a3 : Memref sig .scVector .hbm S32x16 .f32) (h3)
    (a4 : Memref sig .scVector .vmem S64x512 .f32) (h4 : a4.IsWhole) (a5 : Memref sig .scVector .vmem S64x512 .f32) (h5)
    (a6 : Memref sig .scVector .vmem S16 .f32) (h6) (a7 a8 r0 : DmaSems sig S_)
    (k : Fin k0_t1_loop.trips) (acc : Acc4 F) (f : Buf (Elt F) (a4.view.loc (V d (cV L) (jV L)))) :
    (a4.view.loc (V d (cV L) (jV L)) ↦{fullShare} f : sProp 𝕄)
      ⊢ wp frame (wpE (defs₀ (F := F)) 𝒱₀ (V d (cV L) (jV L)) none) Set.univ
        (k0_t1_body L a2 h2 a3 h3 a4 h4 a5 h5 a6 h6 a7 a8 r0 k acc) fun r =>
          iprop(⌜r = rowStep (a4.view.read (Elt F) f) k acc⌝ ∗ a4.view.loc (V d (cV L) (jV L)) ↦{fullShare} f) := by
  obtain ⟨x0, x1, x2, x3⟩ := acc
  unfold k0_t1_body
  simp only [k0_part1_eq_skeleton, k0_part2_eq_skeleton]
  unfold k0_part1_skel k0_part2_skel
  iintro H
  sl_exec
  sl_step
  isplitr
  · ipureintro
    dsimp only
    unfold k0_pay95 k0_pay96 k0_pay97 k0_pay98 k0_pay14 k0_pay15 k0_pay16 k0_pay17 k0_pay18 k0_pay19 k0_pay20 k0_pay21 k0_pay22 k0_pay23
    dsimp only
    simp only [seg_at a4 f k (k0_off3 k) (k0_off3_inb k) ⟨0, by decide⟩ rfl rfl, seg_at a4 f k (k0_off4 k) (k0_off4_inb k) ⟨1, by decide⟩ rfl rfl, seg_at a4 f k (k0_off5 k) (k0_off5_inb k) ⟨2, by decide⟩ rfl rfl, seg_at a4 f k (k0_off6 k) (k0_off6_inb k) ⟨3, by decide⟩ rfl rfl, seg_at a4 f k (k0_off7 k) (k0_off7_inb k) ⟨4, by decide⟩ rfl rfl, seg_at a4 f k (k0_off8 k) (k0_off8_inb k) ⟨5, by decide⟩ rfl rfl, seg_at a4 f k (k0_off9 k) (k0_off9_inb k) ⟨6, by decide⟩ rfl rfl, seg_at a4 f k (k0_off10 k) (k0_off10_inb k) ⟨7, by decide⟩ rfl rfl, seg_at a4 f k (k0_off11 k) (k0_off11_inb k) ⟨8, by decide⟩ rfl rfl, seg_at a4 f k (k0_off12 k) (k0_off12_inb k) ⟨9, by decide⟩ rfl rfl, seg_at a4 f k (k0_off13 k) (k0_off13_inb k) ⟨10, by decide⟩ rfl rfl, seg_at a4 f k (k0_off14 k) (k0_off14_inb k) ⟨11, by decide⟩ rfl rfl, seg_at a4 f k (k0_off15 k) (k0_off15_inb k) ⟨12, by decide⟩ rfl rfl, seg_at a4 f k (k0_off16 k) (k0_off16_inb k) ⟨13, by decide⟩ rfl rfl, seg_at a4 f k (k0_off17 k) (k0_off17_inb k) ⟨14, by decide⟩ rfl rfl, seg_at a4 f k (k0_off18 k) (k0_off18_inb k) ⟨15, by decide⟩ rfl rfl, seg_at a4 f k (k0_off19 k) (k0_off19_inb k) ⟨16, by decide⟩ rfl rfl, seg_at a4 f k (k0_off20 k) (k0_off20_inb k) ⟨17, by decide⟩ rfl rfl, seg_at a4 f k (k0_off21 k) (k0_off21_inb k) ⟨18, by decide⟩ rfl rfl, seg_at a4 f k (k0_off22 k) (k0_off22_inb k) ⟨19, by decide⟩ rfl rfl, seg_at a4 f k (k0_off23 k) (k0_off23_inb k) ⟨20, by decide⟩ rfl rfl, seg_at a4 f k (k0_off24 k) (k0_off24_inb k) ⟨21, by decide⟩ rfl rfl, seg_at a4 f k (k0_off25 k) (k0_off25_inb k) ⟨22, by decide⟩ rfl rfl, seg_at a4 f k (k0_off26 k) (k0_off26_inb k) ⟨23, by decide⟩ rfl rfl, seg_at a4 f k (k0_off27 k) (k0_off27_inb k) ⟨24, by decide⟩ rfl rfl, seg_at a4 f k (k0_off28 k) (k0_off28_inb k) ⟨25, by decide⟩ rfl rfl, seg_at a4 f k (k0_off29 k) (k0_off29_inb k) ⟨26, by decide⟩ rfl rfl, seg_at a4 f k (k0_off30 k) (k0_off30_inb k) ⟨27, by decide⟩ rfl rfl, seg_at a4 f k (k0_off31 k) (k0_off31_inb k) ⟨28, by decide⟩ rfl rfl, seg_at a4 f k (k0_off32 k) (k0_off32_inb k) ⟨29, by decide⟩ rfl rfl, seg_at a4 f k (k0_off33 k) (k0_off33_inb k) ⟨30, by decide⟩ rfl rfl, seg_at a4 f k (k0_off34 k) (k0_off34_inb k) ⟨31, by decide⟩ rfl rfl]
    rfl
  · iexact H

/-- The loop over a block: its sixty-four rows are added to the four sums, the block unchanged. -/
theorem loop_wp (a2 : Memref sig .scVector .hbm S16384x512 .f32) (h2) (a3 : Memref sig .scVector .hbm S32x16 .f32) (h3)
    (a4 : Memref sig .scVector .vmem S64x512 .f32) (h4 : a4.IsWhole) (a5 : Memref sig .scVector .vmem S64x512 .f32) (h5)
    (a6 : Memref sig .scVector .vmem S16 .f32) (h6) (a7 a8 r0 : DmaSems sig S_)
    (acc : Acc4 F) (f : Buf (Elt F) (a4.view.loc (V d (cV L) (jV L))))
    {β : Type} (kk : Acc4 F → Prog (TpuEff nD τ sig (Elt F) Λ₀ (.scVector (cV L) (jV L))) β) (Q : β → sProp 𝕄) :
    iprop((a4.view.loc (V d (cV L) (jV L)) ↦{fullShare} f) ∗ ((a4.view.loc (V d (cV L) (jV L)) ↦{fullShare} f)
        -∗ ∀ x0 : FVec F S16 .f32, ∀ x1 : FVec F S16 .f32, ∀ x2 : FVec F S16 .f32, ∀ x3 : FVec F S16 .f32,
          ⌜(x0, x1, x2, x3) = rows (a4.view.read (Elt F) f) 64 acc⌝
        -∗ wp frame (wpE (defs₀ (F := F)) 𝒱₀ (V d (cV L) (jV L)) none) Set.univ (kk (x0, x1, x2, x3)) Q))
      ⊢ wp frame (wpE (defs₀ (F := F)) 𝒱₀ (V d (cV L) (jV L)) none) Set.univ
        (Scf.Loop.for k0_t1_loop k0_t1_ok acc (k0_t1_body L a2 h2 a3 h3 a4 h4 a5 h5 a6 h6 a7 a8 r0) >>= kk) Q := by
  rw [wp_bind]
  iintro ⟨H, Hk⟩
  iapply (Scf.wp_for frame (wpE (defs₀ (F := F)) 𝒱₀ (V d (cV L) (jV L)) none) Set.univ _ _ _ k0_t1_ok acc _
    (fun n r => iprop(⌜r = rows (a4.view.read (Elt F) f) n acc⌝ ∗ a4.view.loc (V d (cV L) (jV L)) ↦{fullShare} f)) ?_)
  · intro k r
    iintro ⟨%e, H⟩
    subst e
    iapply (wp_mono frame _ _ ?_) $$ [H]
    swap
    · iapply (row_wp d L a2 h2 a3 h3 a4 h4 a5 h5 a6 h6 a7 a8 r0 k _ f); iexact H
    intro r
    iintro ⟨%e, H⟩
    isplitr
    · ipureintro
      have hk : k.val < 64 := k.isLt
      rw [e, rows, dif_pos hk]
      rfl
    · iexact H
  · isplitl [H]
    · isplitr
      · ipureintro; rfl
      · iexact H
    · iintro %r ⟨%e, H⟩
      obtain ⟨x0, x1, x2, x3⟩ := r
      iapply Hk $$ [H] %x0 %x1 %x2 %x3 []
      · iexact H
      · ipureintro; exact e

end Cert.Proof.Run

end

end
-- ==== Proof.Tile.lean ====
module

public import proofs.«01_k».proof.Proof.Row
public import Idealize.ShloMosaic.Lib.ValueIdxCore
public import Idealize.ShloMosaic.Lib.VecWindow
public import Idealize.ShloMosaic.Lib.Pipeline.Value

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The buffers -/

variable (m : (ℓ : Loc nD τ sig) → Buf (Elt F) ℓ)

abbrev xLoc (d : Dev nD) : Loc nD τ sig := (SparseCore.T d).loc main_arg1
abbrev oLoc (d : Dev nD) : Loc nD τ sig := (SparseCore.T d).loc main_v1

/-! ## The blocks of `x` and the rows of partial sums -/

/-- The rows of `x` a tile sums, and one block of sixty-four of them; the row of partial sums it writes. -/
def xTile (w : ℕ) : Finset S16384x512.Idx := Finset.univ.filter fun i => (i 0).val / 512 = w
def xChunk (w n : ℕ) : Finset S16384x512.Idx := Finset.univ.filter fun i => (i 0).val / 64 = 8 * w + n
def oRow (w : ℕ) : Finset S32x16.Idx := Finset.univ.filter fun i => (i 0).val = w

/-- The number of a tile: twice its subcore's plus its SparseCore's. -/
abbrev wid (L : grid0.Coords) : Fin 32 := ⟨2 * (L 1).val + (L 0).val, by
  have h0 : (L 0).val < 2 := (L 0).isLt
  have h1 : (L 1).val < 16 := (L 1).isLt
  omega⟩

theorem off1_row : ∀ L : grid0.Coords, k0_off1 L 0 = 512 * (wid L).val ∧ k0_off1 L 1 = 0 := by decide +kernel
theorem off2_row : ∀ (L : grid0.Coords) (n : Fin 7), k0_off2 L (BitVec.ofNat 32 (64 + 64 * n.val)) 0 = 512 * (wid L).val + 64 * (n.val + 1)
    ∧ k0_off2 L (BitVec.ofNat 32 (64 + 64 * n.val)) 1 = 0 := by decide +kernel
theorem off259_row : ∀ L : grid0.Coords, k0_off259 L 0 = (wid L).val ∧ k0_off259 L 1 = 0 := by decide +kernel

omit [FloatOps F] in
theorem xTile_chunks (d : Dev nD) (w : ℕ) (f : Buf (Elt F) (xLoc d)) :
    (xLoc d ↦[xTile w]{fullShare} f : sProp 𝕄)
      = iprop((xLoc d ↦[xChunk w 0]{fullShare} f) ∗ (xLoc d ↦[xChunk w 1]{fullShare} f) ∗ (xLoc d ↦[xChunk w 2]{fullShare} f)
        ∗ (xLoc d ↦[xChunk w 3]{fullShare} f) ∗ (xLoc d ↦[xChunk w 4]{fullShare} f) ∗ (xLoc d ↦[xChunk w 5]{fullShare} f)
        ∗ (xLoc d ↦[xChunk w 6]{fullShare} f) ∗ xLoc d ↦[xChunk w 7]{fullShare} f) := by
  have hd : ∀ n ∈ ({0, 1, 2, 3, 4, 5, 6, 7} : Finset ℕ), ∀ n' ∈ ({0, 1, 2, 3, 4, 5, 6, 7} : Finset ℕ), n ≠ n' → Disjoint (xChunk w n) (xChunk w n') := by
    intro n _ n' _ h
    rw [Finset.disjoint_left]
    intro i hi hi'
    simp only [xChunk, Finset.mem_filter, Finset.mem_univ, true_and] at hi hi'
    omega
  have hc : xTile w = ({0, 1, 2, 3, 4, 5, 6, 7} : Finset ℕ).biUnion (xChunk w) := by
    ext i
    simp only [xTile, xChunk, Finset.mem_filter, Finset.mem_univ, true_and, Finset.mem_biUnion, Finset.mem_insert, Finset.mem_singleton,
      exists_eq_or_imp, exists_eq_left]
    omega
  rw [hc, pointsTo_biUnion _ (ℓ := xLoc d) (xChunk w) hd]
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The thirty-two tiles, by SparseCore and subcore. -/
theorem tiles_disjoint {α : Type} [Fintype α] [DecidableEq α] (r : α → ℕ) :
    ∀ p ∈ (Finset.univ : Finset (Fin 2 × Fin 16)), ∀ p' ∈ (Finset.univ : Finset (Fin 2 × Fin 16)), p ≠ p' →
      Disjoint (Finset.univ.filter fun i => r i = 2 * p.2.val + p.1.val) (Finset.univ.filter fun i => r i = 2 * p'.2.val + p'.1.val) := by
  rintro ⟨c, i⟩ _ ⟨c', i'⟩ _ h
  rw [Finset.disjoint_left]
  intro j hj hj'
  simp only [Finset.mem_filter, Finset.mem_univ, true_and] at hj hj'
  apply h
  have hc := c.isLt
  have hc' := c'.isLt
  refine Prod.ext (Fin.ext ?_) (Fin.ext ?_) <;> dsimp only <;> omega

theorem tiles_cover {α : Type} [Fintype α] [DecidableEq α] (r : α → ℕ) (hr : ∀ a, r a < 32) :
    (Finset.univ : Finset (Fin 2 × Fin 16)).biUnion (fun p => Finset.univ.filter fun i => r i = 2 * p.2.val + p.1.val) = Finset.univ := by
  ext j
  simp only [Finset.mem_biUnion, Finset.mem_filter, Finset.mem_univ, true_and, iff_true]
  have h := hr j
  exact ⟨(⟨r j % 2, by omega⟩, ⟨r j / 2, by omega⟩), by dsimp only; omega⟩

omit [FloatOps F] in
theorem xPts_tiles (d : Dev nD) (f : Buf (Elt F) (xLoc d)) :
    (xLoc d ↦{fullShare} f : sProp 𝕄)
      = bigSep Finset.univ fun c : Fin 2 => bigSep Finset.univ fun i : Fin 16 => xLoc d ↦[xTile (2 * i.val + c.val)]{fullShare} f := by
  rw [← BI.bigSep_univ_prod (fun p : Fin 2 × Fin 16 => (xLoc d ↦[xTile (2 * p.2.val + p.1.val)]{fullShare} f : sProp 𝕄)),
    ← pointsTo_biUnion Finset.univ (ℓ := xLoc d) (fun p : Fin 2 × Fin 16 => xTile (2 * p.2.val + p.1.val))
      (tiles_disjoint fun i : S16384x512.Idx => (i 0).val / 512)]
  exact congrArg (fun S => (xLoc d ↦[S]{fullShare} f : sProp 𝕄)) (tiles_cover (fun i : S16384x512.Idx => (i 0).val / 512) fun a => by
    have h : (a 0).val < 16384 := (a 0).isLt
    omega).symm

omit [FloatOps F] in
theorem oPts_tiles (d : Dev nD) (f : Buf (Elt F) (oLoc d)) :
    (oLoc d ↦{fullShare} f : sProp 𝕄)
      = bigSep Finset.univ fun c : Fin 2 => bigSep Finset.univ fun i : Fin 16 => oLoc d ↦[oRow (2 * i.val + c.val)]{fullShare} f := by
  rw [← BI.bigSep_univ_prod (fun p : Fin 2 × Fin 16 => (oLoc d ↦[oRow (2 * p.2.val + p.1.val)]{fullShare} f : sProp 𝕄)),
    ← pointsTo_biUnion Finset.univ (ℓ := oLoc d) (fun p : Fin 2 × Fin 16 => oRow (2 * p.2.val + p.1.val))
      (tiles_disjoint fun i : S32x16.Idx => (i 0).val)]
  exact congrArg (fun S => (oLoc d ↦[S]{fullShare} f : sProp 𝕄)) (tiles_cover (fun i : S32x16.Idx => (i 0).val) fun a => (a 0).isLt).symm

/-! ## The sums -/

/-- A block of sixty-four rows of `x`, the sums a tile holds after some blocks, and what all the tiles write. -/
def chunk (x : S16384x512.Idx → F .f32) (w : Fin 32) (n : Fin 8) : S64x512.Idx → F .f32 :=
  fun j => x (ValueIdx.ix2 ⟨512 * w.val + 64 * n.val + (j 0).val, by have : (j 0).val < 64 := (j 0).isLt; omega⟩ (j 1))
def tileAcc (x : S16384x512.Idx → F .f32) (w : Fin 32) : ℕ → Acc4 F
  | 0 => (k0_pay94, k0_pay94, k0_pay94, k0_pay94)
  | n + 1 => if h : n < 8 then rows (chunk x w ⟨n, h⟩) 64 (tileAcc x w n) else tileAcc x w n
def tileSum (x : S16384x512.Idx → F .f32) (w : Fin 32) : FVec F S16 .f32 :=
  k0_pay13 (tileAcc x w 8).1 (tileAcc x w 8).2.1 (tileAcc x w 8).2.2.1 (tileAcc x w 8).2.2.2
def outVal (x : S16384x512.Idx → F .f32) : S32x16.Idx → F .f32 := fun j => tileSum x (j 0) (ValueIdx.ix1 (j 1))

theorem tileAcc_succ (x : S16384x512.Idx → F .f32) (w : Fin 32) (n : Fin 8) :
    tileAcc x w (n.val + 1) = rows (chunk x w n) 64 (tileAcc x w n.val) := by rw [tileAcc, dif_pos n.isLt]

/-- The block of rows of `x` a tile reads first, and its seven later ones. -/
abbrev xK0 (L : grid0.Coords) : Memref sig .scVector .hbm S64x512 .f32 :=
  (Memref.whole main_arg1_scv).slice (Rect.unit (s := S16384x512) (k0_off1 L) S64x512.size (k0_off1_inb L)) (fun _ => rfl)
abbrev xK (L : grid0.Coords) (n : Fin 7) : Memref sig .scVector .hbm S64x512 .f32 :=
  (Memref.whole main_arg1_scv).slice (Rect.unit (s := S16384x512) (k0_off2 L (BitVec.ofNat 32 (64 + 64 * n.val))) S64x512.size (k0_off2_inb L n)) (fun _ => rfl)
/-- The row of partial sums a tile writes. -/
abbrev oK (L : grid0.Coords) : Memref sig .scVector .hbm S16 .f32 :=
  ((Memref.whole main_v1_scv).slice (Rect.unit (s := S32x16) (k0_off259 L) S1x16.size (k0_off259_inb L)) (fun _ => rfl)).squeeze S16 squeezes_S1x16_S16

omit [FloatOps F] in
theorem set_xK (L : grid0.Coords) (off : Fin 2 → ℕ) (h) (n : ℕ) (e0 : off 0 = 512 * (wid L).val + 64 * n) (e1 : off 1 = 0) :
    ((Memref.whole main_arg1_scv : Memref sig .scVector .hbm S16384x512 .f32).slice (Rect.unit (s := S16384x512) off S64x512.size h) (fun _ => rfl)).view.set
      = xChunk (2 * (L 1).val + (L 0).val) n := by
  refine ((View.set_slice _ _).trans Finset.map_refl).trans ?_
  ext i
  refine (Rect.mem_set_unit.trans Fin.forall_fin_two).trans ?_
  rw [e0, e1]
  have hi : (i 1).val < 512 := (i 1).isLt
  simp only [xChunk, Finset.mem_filter, Finset.mem_univ, true_and]
  show (512 * (2 * (L 1).val + (L 0).val) + 64 * n ≤ (i 0).val ∧ (i 0).val < 512 * (2 * (L 1).val + (L 0).val) + 64 * n + 64)
    ∧ (0 ≤ (i 1).val ∧ (i 1).val < 0 + 512) ↔ _
  omega

omit [FloatOps F] in
theorem read_xK (L : grid0.Coords) (off : Fin 2 → ℕ) (h) (n : Fin 8) (e0 : off 0 = 512 * (wid L).val + 64 * n.val) (e1 : off 1 = 0)
    (f : S16384x512.Idx → F .f32) :
    ((Memref.whole main_arg1_scv : Memref sig .scVector .hbm S16384x512 .f32).slice (Rect.unit (s := S16384x512) off S64x512.size h) (fun _ => rfl)).view.read (Elt F) f
      = chunk f (wid L) n := by
  funext j
  refine ((View.read_apply _ _).trans (cast_eq _ _)).trans (congrArg f ?_)
  funext a
  match a with
  | ⟨0, _⟩ => exact Fin.ext (by simp [e0, Memref.slice])
  | ⟨1, _⟩ => exact Fin.ext (by simp [e1, Memref.slice])

omit [FloatOps F] in
theorem set_oK (L : grid0.Coords) : (oK L).view.set = oRow (2 * (L 1).val + (L 0).val) := by
  show (((Memref.whole main_v1_scv : Memref sig .scVector .hbm S32x16 .f32).view.slice (Rect.unit (s := S32x16) (k0_off259 L) S1x16.size (k0_off259_inb L))).reshape S16
    squeezes_S1x16_S16.numel_eq).set = _
  rw [View.set_reshape]
  refine ((View.set_slice _ _).trans Finset.map_refl).trans ?_
  ext i
  refine (Rect.mem_set_unit.trans Fin.forall_fin_two).trans ?_
  rw [(off259_row L).1, (off259_row L).2]
  have hi : (i 1).val < 16 := (i 1).isLt
  simp only [oRow, Finset.mem_filter, Finset.mem_univ, true_and]
  show ((2 * (L 1).val + (L 0).val) ≤ (i 0).val ∧ (i 0).val < (2 * (L 1).val + (L 0).val) + 1) ∧ (0 ≤ (i 1).val ∧ (i 1).val < 0 + 16) ↔ _
  omega

theorem read_oK (L : grid0.Coords) (x : S16384x512.Idx → F .f32) : (oK L).view.read (Elt F) (outVal x) = tileSum x (wid L) := by
  funext i
  rw [show (oK L).view.read (Elt F) (outVal x) = shapeCast S16 ((Memref.whole main_v1_scv : Memref sig .scVector .hbm S32x16 .f32).view.readAt (Elt F)
      (Rect.unit (s := S32x16) (k0_off259 L) S1x16.size (k0_off259_inb L)).toLoadRect (outVal x)) shapeCasts_S1x16_S16 from rfl]
  refine (shapeCast_dropUnit_apply ![16] _ shapeCasts_S1x16_S16 i).trans ?_
  refine ((View.read_apply _ _).trans (cast_eq _ _)).trans ?_
  unfold outVal
  congr 1
  · exact Fin.ext (by simp [(off259_row L).1]; rfl)
  · funext a
    match a with
    | ⟨0, _⟩ => exact Fin.ext (by simp [(off259_row L).2]; rfl)

omit [FloatOps F] in
/-- A buffer written through a view, on the view's own elements: any other reading the same there. -/
theorem pointsTo_written {sp : Space} {s : Shape} {e : EltTy} (c : Thread nD τ) (v : View sig c.2.kind sp s e) (f g : Buf (Elt F) (v.loc c))
    (w : s.Idx → Elt F e) (h : v.read (Elt F) g = w) :
    (v.loc c ↦[v.set]{fullShare} v.writes (Elt F) f [⟨Rect.whole s, w⟩] : sProp 𝕄) = v.loc c ↦[v.set]{fullShare} g :=
  pointsTo_congr fun i hi => by
    obtain ⟨y, -, rfl⟩ := Finset.mem_map.mp hi
    have h' : v.read (Elt F) (v.writes (Elt F) f [⟨Rect.whole s, w⟩]) y = v.read (Elt F) g y := by rw [View.read_writes_whole, h]
    rw [View.read_apply, View.read_apply] at h'
    exact (cast_inj _).mp h'

variable (d : Dev nD) (L : grid0.Coords)

theorem t6_body_eq' (a2 h2 a3 h3 a4 h4 a5 h5 a6 h6 a7 a8 r) : @k0_t6_body F _ L a2 h2 a3 h3 a4 h4 a5 h5 a6 h6 a7 a8 r 0#32 1#32
    = k0_t1_body L a2 h2 a3 h3 a5 h5 a4 h4 a6 h6 a7 a8 r :=
  congrFun (congrFun (congrFun (congrFun (congrFun (congrFun (congrFun (congrFun (congrFun (congrFun (congrFun (congrFun (congrFun (congrFun t6_body_eq L) a2) h2) a3) h3) a4) h4) a5) h5) a6) h6) a7) a8) r

set_option maxHeartbeats 4000000 in
theorem tile_run (O : CellTallies nD τ sig (HIx 1)) (W : Waits sig (HIx 1)) (fx : Buf (Elt F) (xLoc d)) (fo : Buf (Elt F) (oLoc d))
    (f0 : Buf (Elt F) ((V d (cV L) (jV L)).loc cc0_scratch0)) (f1 : Buf (Elt F) ((V d (cV L) (jV L)).loc cc0_scratch1))
    (fa : Buf (Elt F) ((V d (cV L) (jV L)).loc cc0_scratch2)) :
    iprop(Transfers.MayWaits (V d (cV L) (jV L)) (default : HIx 1) O
        ∗ ((xK0 L).view.loc (V d (cV L) (jV L)) ↦[(xK0 L).view.set]{fullShare} fx)
        ∗ ((xK L 0).view.loc (V d (cV L) (jV L)) ↦[(xK L 0).view.set]{fullShare} fx)
        ∗ ((xK L 1).view.loc (V d (cV L) (jV L)) ↦[(xK L 1).view.set]{fullShare} fx)
        ∗ ((xK L 2).view.loc (V d (cV L) (jV L)) ↦[(xK L 2).view.set]{fullShare} fx)
        ∗ ((xK L 3).view.loc (V d (cV L) (jV L)) ↦[(xK L 3).view.set]{fullShare} fx)
        ∗ ((xK L 4).view.loc (V d (cV L) (jV L)) ↦[(xK L 4).view.set]{fullShare} fx)
        ∗ ((xK L 5).view.loc (V d (cV L) (jV L)) ↦[(xK L 5).view.set]{fullShare} fx)
        ∗ ((xK L 6).view.loc (V d (cV L) (jV L)) ↦[(xK L 6).view.set]{fullShare} fx)
        ∗ ((oK L).view.loc (V d (cV L) (jV L)) ↦[(oK L).view.set]{fullShare} fo)
        ∗ ((Memref.whole cc0_scratch0).view.loc (V d (cV L) (jV L)) ↦{fullShare} f0) ∗ ((Memref.whole cc0_scratch1).view.loc (V d (cV L) (jV L)) ↦{fullShare} f1)
        ∗ ((Memref.whole cc0_scratch2).view.loc (V d (cV L) (jV L)) ↦{fullShare} fa)
        ∗ semVal (V d (cV L) (jV L), .dma cc0_scratch3.sem) 0 ∗ semVal (V d (cV L) (jV L), .dma cc0_scratch4.sem) 0 ∗ semVal (V d (cV L) (jV L), .dma cc0_scoped0.sem) 0
        ∗ owes (V d (cV L) (jV L)) O W)
      ⊢ (wp frame (wpE (defs₀ (F := F)) 𝒱₀ (V d (cV L) (jV L)) none) Set.univ
          (cc0__sc_xsum_body L (Memref.whole main_arg1_scv) (Memref.isWhole_whole _) (Memref.whole main_v1_scv) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scoped0)
          fun _ => iprop(((xK0 L).view.loc (V d (cV L) (jV L)) ↦[(xK0 L).view.set]{fullShare} fx)
            ∗ ((xK L 0).view.loc (V d (cV L) (jV L)) ↦[(xK L 0).view.set]{fullShare} fx)
            ∗ ((xK L 1).view.loc (V d (cV L) (jV L)) ↦[(xK L 1).view.set]{fullShare} fx)
            ∗ ((xK L 2).view.loc (V d (cV L) (jV L)) ↦[(xK L 2).view.set]{fullShare} fx)
            ∗ ((xK L 3).view.loc (V d (cV L) (jV L)) ↦[(xK L 3).view.set]{fullShare} fx)
            ∗ ((xK L 4).view.loc (V d (cV L) (jV L)) ↦[(xK L 4).view.set]{fullShare} fx)
            ∗ ((xK L 5).view.loc (V d (cV L) (jV L)) ↦[(xK L 5).view.set]{fullShare} fx)
            ∗ ((xK L 6).view.loc (V d (cV L) (jV L)) ↦[(xK L 6).view.set]{fullShare} fx)
            ∗ ((oK L).view.loc (V d (cV L) (jV L)) ↦[(oK L).view.set]{fullShare} outVal fx)
            ∗ (∃ f, (Memref.whole cc0_scratch0).view.loc (V d (cV L) (jV L)) ↦{fullShare} f)
            ∗ (∃ f, (Memref.whole cc0_scratch1).view.loc (V d (cV L) (jV L)) ↦{fullShare} f)
            ∗ (∃ f, (Memref.whole cc0_scratch2).view.loc (V d (cV L) (jV L)) ↦{fullShare} f)
            ∗ semVal (V d (cV L) (jV L), .dma cc0_scratch3.sem) 0 ∗ semVal (V d (cV L) (jV L), .dma cc0_scratch4.sem) 0
            ∗ semVal (V d (cV L) (jV L), .dma cc0_scoped0.sem) 0
            ∗ ∃ W', ⌜∀ p ∈ W', p ∈ W ∨ p.2 = none⌝ ∗ owes (V d (cV L) (jV L)) O W') : sProp 𝕄) := by
  rw [cc0__sc_xsum_body_eq_skeleton]
  unfold cc0__sc_xsum_body_skel
  rw [k0_part17_eq_skeleton, k0_part18_eq_skeleton]
  unfold k0_part17_skel k0_part18_skel
  rw [t2_body_eq, t3_body_eq, t4_body_eq, t5_body_eq, t7_body_eq, t8_body_eq]
  beta_reduce
  iintro ⟨#Hmw, HX0, HX1, HX2, HX3, HX4, HX5, HX6, HX7, HOut, HB0, HB1, HAb, HS0, HS1, HS2, HO⟩
  sl_exec
  rw [Prog.bind_assoc]
  iapply (loop_wp d L _ _ _ _ (Memref.whole cc0_scratch0) _ (Memref.whole cc0_scratch1) _ _ _ _ _ _ _ _ _ _)
  isplitl [HB0]; · iexact HB0
  iintro HB0 %x00 %x01 %x02 %x03 %e0
  sl_exec
  rw [Prog.bind_assoc]
  iapply (loop_wp d L _ _ _ _ (Memref.whole cc0_scratch1) _ (Memref.whole cc0_scratch0) _ _ _ _ _ _ _ _ _ _)
  isplitl [HB1]; · iexact HB1
  iintro HB1 %x10 %x11 %x12 %x13 %e1
  sl_exec
  rw [Prog.bind_assoc]
  iapply (loop_wp d L _ _ _ _ (Memref.whole cc0_scratch0) _ (Memref.whole cc0_scratch1) _ _ _ _ _ _ _ _ _ _)
  isplitl [HB0]; · iexact HB0
  iintro HB0 %x20 %x21 %x22 %x23 %e2
  sl_exec
  rw [Prog.bind_assoc]
  iapply (loop_wp d L _ _ _ _ (Memref.whole cc0_scratch1) _ (Memref.whole cc0_scratch0) _ _ _ _ _ _ _ _ _ _)
  isplitl [HB1]; · iexact HB1
  iintro HB1 %x30 %x31 %x32 %x33 %e3
  sl_exec
  rw [Prog.bind_assoc]
  iapply (loop_wp d L _ _ _ _ (Memref.whole cc0_scratch0) _ (Memref.whole cc0_scratch1) _ _ _ _ _ _ _ _ _ _)
  isplitl [HB0]; · iexact HB0
  iintro HB0 %x40 %x41 %x42 %x43 %e4
  sl_exec
  rw [t6_body_eq']
  iapply (loop_wp d L _ _ _ _ (Memref.whole cc0_scratch1) _ (Memref.whole cc0_scratch0) _ _ _ _ _ _ _ _ _ _)
  isplitl [HB1]; · iexact HB1
  iintro HB1 %x50 %x51 %x52 %x53 %e5
  sl_exec
  iapply (loop_wp d L _ _ _ _ (Memref.whole cc0_scratch0) _ (Memref.whole cc0_scratch1) _ _ _ _ _ _ _ _ _ _)
  isplitl [HB0]; · iexact HB0
  iintro HB0 %x60 %x61 %x62 %x63 %e6
  sl_exec
  iapply (loop_wp d L _ _ _ _ (Memref.whole cc0_scratch1) _ (Memref.whole cc0_scratch0) _ _ _ _ _ _ _ _ _ _)
  isplitl [HB1]; · iexact HB1
  iintro HB1 %x70 %x71 %x72 %x73 %e7
  sl_exec
  have hp : tile_run.sl.dma2 d L fa x70 x71 x72 x73 = tileSum fx (wid L) := by
    have hz : tileAcc fx (wid L) 0 = (k0_pay94, k0_pay94, k0_pay94, k0_pay94) := rfl
    rw [View.read_write_univ, show tile_run.sl.dma0 d L fx = chunk fx (wid L) 0 from read_xK L (k0_off1 L) (k0_off1_inb L) 0 (off1_row L).1 (off1_row L).2 fx] at e0
    rw [View.read_write_univ, show tile_run.sl.dma0_1 d L fx = chunk fx (wid L) 1 from read_xK L (k0_off2 L 64#32) (k0_off2_inb L 0) 1 (off2_row L 0).1 (off2_row L 0).2 fx] at e1
    rw [View.read_write_univ, show tile_run.sl.dma0_2 d L fx = chunk fx (wid L) 2 from read_xK L (k0_off2 L 128#32) (k0_off2_inb L 1) 2 (off2_row L 1).1 (off2_row L 1).2 fx] at e2
    rw [View.read_write_univ, show tile_run.sl.dma0_3 d L fx = chunk fx (wid L) 3 from read_xK L (k0_off2 L 192#32) (k0_off2_inb L 2) 3 (off2_row L 2).1 (off2_row L 2).2 fx] at e3
    rw [View.read_write_univ, show tile_run.sl.dma0_4 d L fx = chunk fx (wid L) 4 from read_xK L (k0_off2 L 256#32) (k0_off2_inb L 3) 4 (off2_row L 3).1 (off2_row L 3).2 fx] at e4
    rw [View.read_write_univ, show tile_run.sl.dma0_5 d L fx = chunk fx (wid L) 5 from read_xK L (k0_off2 L 320#32) (k0_off2_inb L 4) 5 (off2_row L 4).1 (off2_row L 4).2 fx] at e5
    rw [View.read_write_univ, show tile_run.sl.dma0_6 d L fx = chunk fx (wid L) 6 from read_xK L (k0_off2 L 384#32) (k0_off2_inb L 5) 6 (off2_row L 5).1 (off2_row L 5).2 fx] at e6
    rw [View.read_write_univ, show tile_run.sl.dma0_7 d L fx = chunk fx (wid L) 7 from read_xK L (k0_off2 L 448#32) (k0_off2_inb L 6) 7 (off2_row L 6).1 (off2_row L 6).2 fx] at e7
    rw [← hz] at e0; replace e0 := e0.trans (tileAcc_succ fx (wid L) 0).symm
    rw [e0] at e1; replace e1 := e1.trans (tileAcc_succ fx (wid L) 1).symm
    rw [e1] at e2; replace e2 := e2.trans (tileAcc_succ fx (wid L) 2).symm
    rw [e2] at e3; replace e3 := e3.trans (tileAcc_succ fx (wid L) 3).symm
    rw [e3] at e4; replace e4 := e4.trans (tileAcc_succ fx (wid L) 4).symm
    rw [e4] at e5; replace e5 := e5.trans (tileAcc_succ fx (wid L) 5).symm
    rw [e5] at e6; replace e6 := e6.trans (tileAcc_succ fx (wid L) 6).symm
    rw [e6] at e7; replace e7 := e7.trans (tileAcc_succ fx (wid L) 7).symm
    show (Memref.whole cc0_scratch2).view.read (Elt F) ((Memref.whole cc0_scratch2).view.writes (Elt F) fa [⟨Rect.unit ![0] S16.size inb_S16_S16_0, k0_pay13 x70 x71 x72 x73⟩]) = _
    refine (View.read_writes_full (Memref.whole cc0_scratch2 : Memref sig .scVector .vmem S16 .f32).view fa inb_S16_S16_0 (k0_pay13 x70 x71 x72 x73) []).trans ?_
    unfold tileSum
    rw [show tileAcc fx (wid L) 8 = (x70, x71, x72, x73) from e7.symm]
  ihave HOut := (Entails.of_eq (pointsTo_written (F := F) (V d (cV L) (jV L)) (oK L).view fo (outVal fx) (tile_run.sl.dma2 d L fa x70 x71 x72 x73)
    ((read_oK L fx).trans hp.symm))) $$ HOut
  sl_step
  isplitl [HX0]; · iexact HX0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HOut]; · iexact HOut
  isplitl [HB0]; · iexists _; iexact HB0
  isplitl [HB1]; · iexists _; iexact HB1
  isplitl [HAb]; · iexists _; iexact HAb
  isplitl [HS0]; · iexact HS0
  isplitl [HS1]; · iexact HS1
  isplitl [HS2]; · iexact HS2
  iexists _; isplitr
  swap; · iexact HO
  ipureintro; intro p hp
  simp only [Finset.mem_insert] at hp
  rcases hp with hp | hp | hp | hp | hp | hp | hp | hp | hp | hp
  all_goals first | exact .inr (hp ▸ rfl) | exact .inl hp

end Cert.Proof.Run

end

end
-- ==== Proof.Launch.lean ====
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## What the handshakes carry -/

/-- A tile's part: its rows of `x`, and its row of partial sums at contents `f`. -/
abbrev part (d : Dev nD) (w : ℕ) (f : Buf (Elt F) (oLoc d)) : sProp 𝕄 :=
  iprop((xLoc d ↦[xTile w]{fullShare} m (xLoc d)) ∗ oLoc d ↦[oRow w]{fullShare} f)

/-- The call hands each SparseCore its sixteen tiles' parts, and takes them back with the sums written. -/
def P : (K (F := F)).Pay (nD := nD) (Val := Elt F) (Name := ℕ) (U := UU) where
  st := fun q d c => match q with
    | 0 => bigSep Finset.univ fun i : Fin ((K (F := F)).nSub 0) => part m d (2 * i.val + c.val) (m (oLoc d))
  dn := fun q d c => match q with
    | 0 => bigSep Finset.univ fun i : Fin ((K (F := F)).nSub 0) => part m d (2 * i.val + c.val) (outVal (m (xLoc d)))
  go := fun q d c i => match q with | 0 => part m d (2 * i.val + c.val) (m (oLoc d))
  td := fun q d c i => match q with | 0 => part m d (2 * i.val + c.val) (outVal (m (xLoc d)))
  x := fun _ _ => iprop(emp)

instance P_storable : (P (F := F) m).IsStorable where
  st q d c := match q with
    | 0 => (inferInstance : BI.Storable (upEmb : UEmb _ 𝕄)
        (bigSep Finset.univ fun i : Fin ((K (F := F)).nSub 0) => part m d (2 * i.val + c.val) (m (oLoc d))))
  dn q d c := match q with
    | 0 => (inferInstance : BI.Storable (upEmb : UEmb _ 𝕄)
        (bigSep Finset.univ fun i : Fin ((K (F := F)).nSub 0) => part m d (2 * i.val + c.val) (outVal (m (xLoc d)))))
  go q d c i := match q with
    | 0 => (inferInstance : BI.Storable (upEmb : UEmb _ 𝕄) (part m d (2 * i.val + c.val) (m (oLoc d))))
  td q d c i := match q with
    | 0 => (inferInstance : BI.Storable (upEmb : UEmb _ 𝕄) (part m d (2 * i.val + c.val) (outVal (m (xLoc d)))))

/-! ## A tile's own semaphores and buffers -/

variable (d : Dev nD) (L : grid0.Coords)

abbrev cA (d : Dev nD) (c : Fin τ.nSC) (i : Fin τ.nSub) : GSem nD τ sig := (V d c i, .dma cc0_scratch3.sem)
abbrev cB (d : Dev nD) (c : Fin τ.nSC) (i : Fin τ.nSub) : GSem nD τ sig := (V d c i, .dma cc0_scratch4.sem)
abbrev cC (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scratch3.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scratch4.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne (a b : Ref sig .scVector) (h : a ≠ b) : (Proc.scVector (τ := τ) (cV L) (jV L)).devRef a ≠ (Proc.scVector (cV L) (jV L)).devRef b :=
    fun e => h (Proc.devRef_injective _ e)
  have own (b : Ref sig .scVector) (h) := SparseCore.Cfg.mem_ownRefs_of_owner (p := Proc.scVector (τ := τ) (cV L) (jV L)) (b := (Proc.scVector (cV L) (jV L)).devRef b) h
  unfold SparseCore.Cfg.ownBufs
  refine (SparseCore.bigSep_erase' (own cc0_scratch0 rfl)).trans ?_
  rw [SparseCore.bigSep_erase' (Finset.mem_erase.mpr ⟨ne cc0_scratch1 cc0_scratch0 (by decide), own cc0_scratch1 rfl⟩),
    SparseCore.bigSep_erase' (Finset.mem_erase.mpr ⟨ne cc0_scratch2 cc0_scratch1 (by decide),
      Finset.mem_erase.mpr ⟨ne cc0_scratch2 cc0_scratch0 (by decide), own cc0_scratch2 rfl⟩⟩)]

omit [FloatOps F] in
theorem pts_xK (off : Fin 2 → ℕ) (h) (n : ℕ) (e : off 0 = 512 * (wid L).val + 64 * n ∧ off 1 = 0) (f : Buf (Elt F) (xLoc d)) :
    (((Memref.whole main_arg1_scv : Memref sig .scVector .hbm S16384x512 .f32).slice (Rect.unit (s := S16384x512) off S64x512.size h) (fun _ => rfl)).view.loc (V d (cV L) (jV L))
      ↦[((Memref.whole main_arg1_scv : Memref sig .scVector .hbm S16384x512 .f32).slice (Rect.unit (s := S16384x512) off S64x512.size h) (fun _ => rfl)).view.set]{fullShare} f : sProp 𝕄)
      = xLoc d ↦[xChunk (2 * (L 1).val + (L 0).val) n]{fullShare} f := by
  rw [set_xK L off h n e.1 e.2]
omit [FloatOps F] in
theorem pts_oK (f : Buf (Elt F) (oLoc d)) :
    ((oK L).view.loc (V d (cV L) (jV L)) ↦[(oK L).view.set]{fullShare} f : sProp 𝕄) = oLoc d ↦[oRow (2 * (L 1).val + (L 0).val)]{fullShare} f := by
  rw [set_oK]

/-- A tile's run from what the launch hands it. -/
theorem tile_body (hF : (K (F := F)).Facts) (O : CellTallies nD τ sig (HIx 1)) (W : Waits sig (HIx 1)) (hO : ∀ g, O g none = 0) :
    iprop(levAts (K (F := F)).L (K (F := F)).lev ∗ emp ∗ part m d (2 * (L 1).val + (L 0).val) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_xsum_body L (Memref.whole main_arg1_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scoped0)
          fun _ => iprop(part m d (2 * (L 1).val + (L 0).val) (outVal (m (xLoc d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold part
  rw [xTile_chunks]
  rw [← pts_xK d L (k0_off1 L) (k0_off1_inb L) 0 (off1_row L), ← pts_xK d L _ (k0_off2_inb L 0) 1 (off2_row L 0), ← pts_xK d L _ (k0_off2_inb L 1) 2 (off2_row L 1),
    ← pts_xK d L _ (k0_off2_inb L 2) 3 (off2_row L 2), ← pts_xK d L _ (k0_off2_inb L 3) 4 (off2_row L 3), ← pts_xK d L _ (k0_off2_inb L 4) 5 (off2_row L 4),
    ← pts_xK d L _ (k0_off2_inb L 5) 6 (off2_row L 5), ← pts_xK d L _ (k0_off2_inb L 6) 7 (off2_row L 6), ← pts_oK, ← pts_oK]
  iintro ⟨#Hlv, -, ⟨⟨HX0, HX1, HX2, HX3, HX4, HX5, HX6, HX7⟩, HOut⟩, ⟨⟨%f0, HB0⟩, ⟨%f1, HB1⟩, ⟨%fa, HAb⟩, Hbufs⟩, ⟨HS0, HS1, HS2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand_r frame _ _)
  isplitl [HX0 HX1 HX2 HX3 HX4 HX5 HX6 HX7 HOut HB0 HB1 HAb HS0 HS1 HS2 HO]
  · iapply (tile_run d L O W (m (xLoc d)) (m (oLoc d)) f0 f1 fa)
    isplitr; · iexact Hmw
    isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    isplitl [HX7]; · iexact HX7
    isplitl [HOut]; · iexact HOut
    isplitl [HB0]; · iexact HB0
    isplitl [HB1]; · iexact HB1
    isplitl [HAb]; · iexact HAb
    isplitl [HS0]; · iexact HS0
    isplitl [HS1]; · iexact HS1
    isplitl [HS2]; · iexact HS2
    iexact HO
  iintro %_ ⟨HX0, HX1, HX2, HX3, HX4, HX5, HX6, HX7, HOut, HB0, HB1, HAb, HS0, HS1, HS2, HO⟩
  isplitl [HX0 HX1 HX2 HX3 HX4 HX5 HX6 HX7 HOut]
  · isplitr [HOut]
    · isplitl [HX0]; · iexact HX0
      isplitl [HX1]; · iexact HX1
      isplitl [HX2]; · iexact HX2
      isplitl [HX3]; · iexact HX3
      isplitl [HX4]; · iexact HX4
      isplitl [HX5]; · iexact HX5
      isplitl [HX6]; · iexact HX6
      iexact HX7
    · iexact HOut
  isplitl [HB0 HB1 HAb Hbufs]
  · isplitl [HB0]; · iexact HB0
    isplitl [HB1]; · iexact HB1
    isplitl [HAb]; · iexact HAb
    iexact Hbufs
  isplitl [HS0 HS1 HS2 Hsems]
  · isplitl [HS0]; · iexact HS0
    isplitl [HS1]; · iexact HS1
    isplitl [HS2]; · iexact HS2
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_xsum_body (coordsV c s)
          (Memref.whole main_arg1_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

theorem vecSplit : (K (F := F)).VecSplit' (P m) 0 := by
  intro d c
  show (bigSep Finset.univ fun i : Fin ((K (F := F)).nSub 0) => part m d (2 * i.val + c.val) (m (oLoc d))) ⊢ |={Set.univ}=> iprop(
      (bigSep Finset.univ fun i : Fin ((K (F := F)).nSub 0) => part m d (2 * i.val + c.val) (m (oLoc d)))
      ∗ ((bigSep Finset.univ fun i : Fin ((K (F := F)).nSub 0) => part m d (2 * i.val + c.val) (outVal (m (xLoc d))))
          -∗ bigSep Finset.univ fun i : Fin ((K (F := F)).nSub 0) => part m d (2 * i.val + c.val) (outVal (m (xLoc d)))))
  iintro H; imodintro
  isplitl [H]; · iexact H
  iintro H; iexact H

/-- What the two SparseCores take and give back: `x` and the partial sums whole. -/
theorem parts_whole (f : Buf (Elt F) (oLoc d)) :
    (bigSep Finset.univ fun c : Fin ((K (F := F)).nCore 0) => bigSep Finset.univ fun i : Fin ((K (F := F)).nSub 0) => part m d (2 * i.val + c.val) f)
      = iprop((xLoc d ↦{fullShare} m (xLoc d)) ∗ oLoc d ↦{fullShare} f) := by
  rw [xPts_tiles, oPts_tiles]
  show (bigSep Finset.univ fun c : Fin 2 => bigSep Finset.univ fun i : Fin 16 => part m d (2 * i.val + c.val) f) = _
  unfold part
  simp only [bigSep_sep']

theorem st0_eq : (bigSep Finset.univ fun c : Fin ((K (F := F)).nCore 0) => (P m).st 0 d c) = iprop((xLoc d ↦{fullShare} m (xLoc d)) ∗ oLoc d ↦{fullShare} m (oLoc d)) :=
  parts_whole m d _
theorem dn0_eq : (bigSep Finset.univ fun c : Fin ((K (F := F)).nCore 0) => (P m).dn 0 d c)
    = iprop((xLoc d ↦{fullShare} m (xLoc d)) ∗ oLoc d ↦{fullShare} outVal (m (xLoc d))) :=
  parts_whole m d _

end Cert.Proof.Run

end

end
-- ==== Proof.Region.lean ====
/-
  The TensorCore kernel: its body at a grid point, the two sums it keeps in scalar memory from point to point, and the
  region it runs in.
-/
module

public import proofs.«01_k».proof.Proof.Launch
public import proofs.«01_k».proof.Proof.Gen.KernelIdeal.Points
public import Idealize.ShloMosaic.Lib.Pipeline.RegionArraysS
public import Idealize.ShloMosaic.Lib.Pipeline.Value
public import Idealize.ShloMosaic.Lib.VecWindow
public import Idealize.ShloMosaic.Lib.WritesUnit

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body at a point -/

/-- Memref `M`'s buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The two words of the accumulator, and of the result's block. -/
def two (p : F .f32 × F .f32) : S2.Idx → F .f32 := fun j => if (j 0).val = 0 then p.1 else p.2
def twoOut (p : F .f32 × F .f32) : S1x2.Idx → F .f32 := fun j => if (j 1).val = 0 then p.1 else p.2

/-- What a point contributes: its logits' sum of log-sum-exps less the picked ones, and the labels' centers' sum. -/
abbrev ptVal (x0 : S1000x2048.Idx → F .f32) (x1 : S1x1x2048.Idx → BitVec 32) (x2 : S1000x512.Idx → F .f32) : F .f32 × F .f32 :=
  (k1_pay5 x0 (x1 : Vec F S1x1x2048 .i32), k1_pay4 (x1 : Vec F S1x1x2048 .i32) x2)
/-- One more point's contribution added. -/
abbrev addPt (v p : F .f32 × F .f32) : F .f32 × F .f32 := (k1_pay1 v.1 p.1, k1_pay2 v.2 p.2)

/-- The accumulator's two words written one by one read back as the pair. -/
theorem read_two {κ : Kind} {sp : Space} (v : View sig κ sp S2 .f32) (f : v.ty.Contents (Elt F)) (a b : F .f32) :
    v.read (Elt F) (v.writes (Elt F) f [⟨Rect.unit ![1] S1.size inb_S2_S1_1, fun _ => b⟩, ⟨Rect.unit ![0] S1.size inb_S2_S1_0, fun _ => a⟩]) = two (a, b) := by
  funext y
  have hy : (y 0).val < 2 := (y 0).isLt
  by_cases h : (y 0).val = 0
  · rw [View.read_writes_cons_unit_of_not_mem v f inb_S2_S1_1 (fun _ => b) _ y rfl 0 (Or.inl (by rw [h]; decide)),
      View.read_writes_cons_unit_of_mem v f inb_S2_S1_0 (fun _ => a) _ y (ix1 (n := 1) 0) rfl (fun k => by fin_cases k; exact h)]
    simp [two, h]
  · rw [View.read_writes_cons_unit_of_mem v f inb_S2_S1_1 (fun _ => b) _ y (ix1 (n := 1) 0) rfl (fun k => by fin_cases k; show (y 0).val = 1 + 0; omega)]
    simp [two, h]

/-- The result's two words likewise. -/
theorem read_twoOut {κ : Kind} {sp : Space} (v : View sig κ sp S1x2 .f32) (f : v.ty.Contents (Elt F)) (a b : F .f32) :
    v.read (Elt F) (v.writes (Elt F) f [⟨Rect.unit ![0, 1] S1x1.size inb_S1x2_S1x1_0_1, fun _ => b⟩, ⟨Rect.unit ![0, 0] S1x1.size inb_S1x2_S1x1_0_0, fun _ => a⟩])
      = twoOut (a, b) := by
  funext y
  have hy0 : (y 0).val = 0 := Nat.lt_one_iff.mp (y 0).isLt
  have hy : (y 1).val < 2 := (y 1).isLt
  by_cases h : (y 1).val = 0
  · rw [View.read_writes_cons_unit_of_not_mem v f inb_S1x2_S1x1_0_1 (fun _ => b) _ y rfl 1 (Or.inl (by rw [h]; decide)),
      View.read_writes_cons_unit_of_mem v f inb_S1x2_S1x1_0_0 (fun _ => a) _ y (ix2 (n0 := 1) (n1 := 1) 0 0) rfl
        (fun k => by fin_cases k; exacts [hy0, h])]
    simp [twoOut, h]
  · rw [View.read_writes_cons_unit_of_mem v f inb_S1x2_S1x1_0_1 (fun _ => b) _ y (ix2 (n0 := 1) (n1 := 1) 0 0) rfl
      (fun k => by fin_cases k; exacts [hy0, show (y 1).val = 1 + 0 by omega])]
    simp [twoOut, h]

/-- A word of the accumulator. -/
theorem word0 {κ : Kind} {sp : Space} (v : View sig κ sp S2 .f32) {f : v.ty.Contents (Elt F)} {p : F .f32 × F .f32} (h : v.read (Elt F) f = two p) (x) :
    v.readAt (Elt F) (Rect.unit (s := S2) ![0] S1.size inb_S2_S1_0).toLoadRect f x = p.1 := by
  rw [View.readAt_apply, h]
  have hx : (x 0).val = 0 := Nat.lt_one_iff.mp (x 0).isLt
  simp [two, hx]
theorem word1 {κ : Kind} {sp : Space} (v : View sig κ sp S2 .f32) {f : v.ty.Contents (Elt F)} {p : F .f32 × F .f32} (h : v.read (Elt F) f = two p) (x) :
    v.readAt (Elt F) (Rect.unit (s := S2) ![1] S1.size inb_S2_S1_1).toLoadRect f x = p.2 := by
  rw [View.readAt_apply, h]
  have hx : (x 0).val = 0 := Nat.lt_one_iff.mp (x 0).isLt
  simp [two, hx]

section Body
variable (c : Dev nD) (i : grid1.Coords) (M1 : Memref sig .tc .vmem S1000x2048 .f32) (h1 : M1.IsWhole) (M2 : Memref sig .tc .vmem S1x1x2048 .i32) (h2 : M2.IsWhole)
  (M3 : Memref sig .tc .vmem S1000x512 .f32) (h3 : M3.IsWhole) (M4 : Memref sig .tc .smem S1x2 .f32) (h4 : M4.IsWhole) (M5 : Memref sig .tc .smem S2 .f32) (h5 : M5.IsWhole)

/-- The first point sets the accumulator. -/
theorem body_first (hi : Scalar.cmpi .ne (Scalar.extui (Scalar.cmpi .eq (BitVec.ofNat 32 (i 0).val) 0#32) : BitVec 32) 0#32 = 1#1)
    (hi' : ¬ Scalar.cmpi .ne (Scalar.extui (Scalar.cmpi .sgt (BitVec.ofNat 32 (i 0).val) 0#32) : BitVec 32) 0#32 = 1#1)
    (h7 : ¬ k1_cond3 i = 1#1) (f1 f2 f3 f4 f5) (Q : PUnit → sProp 𝕄) :
    iprop(pt c M1 f1 ∗ pt c M2 f2 ∗ pt c M3 f3 ∗ pt c M4 f4 ∗ pt c M5 f5
        ∗ ((pt c M1 f1 ∗ pt c M2 f2 ∗ pt c M3 f3 ∗ pt c M4 f4
            ∗ (∃ g5, pt c M5 g5 ∗ ⌜M5.view.read (Elt F) g5 = two (ptVal (M1.view.read (Elt F) f1) (M2.view.read (Elt F) f2) (M3.view.read (Elt F) f3))⌝)) -∗ Q ⟨⟩))
      ⊢ wp frame (wpE (defs₀ (F := F)) 𝒱₀ (c : Thread nD τ) none) Set.univ (cc1__tc_body i M1 h1 M2 h2 M3 h3 M4 h4 M5 h5) Q := by
  rw [cc1__tc_body_eq_skeleton]; unfold cc1__tc_body_skel; rw [k1_part1_eq_skeleton]; unfold k1_part1_skel
  iintro ⟨H1, H2, H3, H4, H5, Hk⟩
  sl_exec! (disch := first | exact hi | exact hi' | exact h7)
  sl_step
  sl_unfold_words
  iapply Hk
  isplitl [H1]; · iexact H1
  isplitl [H2]; · iexact H2
  isplitl [H3]; · iexact H3
  isplitl [H4]; · iexact H4
  iexists _; isplitl [H5]; · iexact H5
  ipureintro
  rw [read_two, View.readAt_full, View.readAt_full, View.readAt_full]

/-- A later point adds to it. -/
theorem body_mid (hi : ¬ Scalar.cmpi .ne (Scalar.extui (Scalar.cmpi .eq (BitVec.ofNat 32 (i 0).val) 0#32) : BitVec 32) 0#32 = 1#1)
    (hi' : Scalar.cmpi .ne (Scalar.extui (Scalar.cmpi .sgt (BitVec.ofNat 32 (i 0).val) 0#32) : BitVec 32) 0#32 = 1#1)
    (h7 : ¬ k1_cond3 i = 1#1) (f1 f2 f3 f4 f5) {p : F .f32 × F .f32} (h : M5.view.read (Elt F) f5 = two p) (Q : PUnit → sProp 𝕄) :
    iprop(pt c M1 f1 ∗ pt c M2 f2 ∗ pt c M3 f3 ∗ pt c M4 f4 ∗ pt c M5 f5
        ∗ ((pt c M1 f1 ∗ pt c M2 f2 ∗ pt c M3 f3 ∗ pt c M4 f4
            ∗ (∃ g5, pt c M5 g5 ∗ ⌜M5.view.read (Elt F) g5 = two (addPt (ptVal (M1.view.read (Elt F) f1) (M2.view.read (Elt F) f2) (M3.view.read (Elt F) f3)) p)⌝)) -∗ Q ⟨⟩))
      ⊢ wp frame (wpE (defs₀ (F := F)) 𝒱₀ (c : Thread nD τ) none) Set.univ (cc1__tc_body i M1 h1 M2 h2 M3 h3 M4 h4 M5 h5) Q := by
  rw [cc1__tc_body_eq_skeleton]; unfold cc1__tc_body_skel; rw [k1_part1_eq_skeleton]; unfold k1_part1_skel
  iintro ⟨H1, H2, H3, H4, H5, Hk⟩
  sl_exec! (disch := first | exact hi | exact hi' | exact h7)
  sl_step
  sl_unfold_words
  iapply Hk
  isplitl [H1]; · iexact H1
  isplitl [H2]; · iexact H2
  isplitl [H3]; · iexact H3
  isplitl [H4]; · iexact H4
  iexists _; isplitl [H5]; · iexact H5
  ipureintro
  rw [read_two, View.readAt_full, View.readAt_full, View.readAt_full, word0 _ h, word1 _ h]

/-- The last point adds to it and writes the result out. -/
theorem body_last (hi : ¬ Scalar.cmpi .ne (Scalar.extui (Scalar.cmpi .eq (BitVec.ofNat 32 (i 0).val) 0#32) : BitVec 32) 0#32 = 1#1)
    (hi' : Scalar.cmpi .ne (Scalar.extui (Scalar.cmpi .sgt (BitVec.ofNat 32 (i 0).val) 0#32) : BitVec 32) 0#32 = 1#1)
    (h7 : k1_cond3 i = 1#1) (f1 f2 f3 f4 f5) {p : F .f32 × F .f32} (h : M5.view.read (Elt F) f5 = two p) (Q : PUnit → sProp 𝕄) :
    iprop(pt c M1 f1 ∗ pt c M2 f2 ∗ pt c M3 f3 ∗ pt c M4 f4 ∗ pt c M5 f5
        ∗ ((pt c M1 f1 ∗ pt c M2 f2 ∗ pt c M3 f3 ∗ (∃ g4, pt c M4 g4 ∗ ⌜M4.view.read (Elt F) g4 = twoOut (addPt (ptVal (M1.view.read (Elt F) f1) (M2.view.read (Elt F) f2) (M3.view.read (Elt F) f3)) p)⌝)
            ∗ (∃ g5, pt c M5 g5 ∗ ⌜M5.view.read (Elt F) g5 = two (addPt (ptVal (M1.view.read (Elt F) f1) (M2.view.read (Elt F) f2) (M3.view.read (Elt F) f3)) p)⌝)) -∗ Q ⟨⟩))
      ⊢ wp frame (wpE (defs₀ (F := F)) 𝒱₀ (c : Thread nD τ) none) Set.univ (cc1__tc_body i M1 h1 M2 h2 M3 h3 M4 h4 M5 h5) Q := by
  rw [cc1__tc_body_eq_skeleton]; unfold cc1__tc_body_skel; rw [k1_part1_eq_skeleton]; unfold k1_part1_skel
  iintro ⟨H1, H2, H3, H4, H5, Hk⟩
  sl_exec! (disch := first | exact hi | exact hi' | exact h7)
  sl_step
  sl_unfold_words
  iapply Hk
  isplitl [H1]; · iexact H1
  isplitl [H2]; · iexact H2
  isplitl [H3]; · iexact H3
  isplitl [H4]
  · iexists _; isplitl [H4]; · iexact H4
    ipureintro
    rw [read_twoOut, View.readAt_full, View.readAt_full, View.readAt_full, word0 _ h, word1 _ h]
  iexists _; isplitl [H5]; · iexact H5
  ipureintro
  rw [read_two, View.readAt_full, View.readAt_full, View.readAt_full, word0 _ h, word1 _ h]

end Body

end Cert.Proof.Run

end

end
-- ==== Proof.Entry.lean ====
/-
  The TensorCore region's proof data: what each window's buffer holds at each point, what the two sums are after each
  point, and the body's obligation.
-/
module

public import proofs.«01_k».proof.Proof.Region
public import Idealize.ShloMosaic.Lib.Pipeline.FrameBody

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The blocks and the running sums, as functions of the arrays -/

/-- Columns `2048 t … 2048 t + 2047` of the transposed logits. -/
def pBlk (p : S1000x16384.Idx → F .f32) (t : Fin 8) : S1000x2048.Idx → F .f32 :=
  fun j => p (ix2 (n0 := 1000) (n1 := 16384) (j 0) ⟨t.val * 2048 + (j 1).val, by have : (j 1).val < 2048 := (j 1).isLt; omega⟩)
/-- Row `t` of the labels. -/
def lBlk (l : S8x1x2048.Idx → BitVec 32) (t : Fin 8) : S1x1x2048.Idx → BitVec 32 :=
  fun j => l (ix3 (n0 := 8) (n1 := 1) (n2 := 2048) t 0 (j 2))

/-- The two sums after point `n`. -/
def acc (p : S1000x16384.Idx → F .f32) (l : S8x1x2048.Idx → BitVec 32) (cc : S1000x512.Idx → F .f32) : ℕ → F .f32 × F .f32
  | 0 => ptVal (pBlk p 0) (lBlk l 0) cc
  | n + 1 => addPt (ptVal (pBlk p (Fin.ofNat 8 (n + 1))) (lBlk l (Fin.ofNat 8 (n + 1))) cc) (acc p l cc n)

theorem acc_step (p : S1000x16384.Idx → F .f32) (l : S8x1x2048.Idx → BitVec 32) (cc : S1000x512.Idx → F .f32) {n : ℕ} (h : n ≠ 0) :
    acc p l cc n = addPt (ptVal (pBlk p (Fin.ofNat 8 n)) (lBlk l (Fin.ofNat 8 n)) cc) (acc p l cc (n - 1)) := by
  cases n with
  | zero => exact absurd rfl h
  | succ n => rfl

variable (V : Valuation τ sig (Elt F))

/-- The three operands at the entry. -/
abbrev vP : S1000x16384.Idx → F .f32 := V (Proc.devRef .tc main_v2)
abbrev vL : S8x1x2048.Idx → BitVec 32 := V (Proc.devRef .tc main_v0)
abbrev vC : S1000x512.Idx → F .f32 := V (Proc.devRef .tc main_arg3)
abbrev vAcc (n : ℕ) : F .f32 × F .f32 := acc (vP V) (vL V) (vC V) n

/-- What a window's array block holds at a point. -/
def stg (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

theorem stg0 (t : Fin cfg1.N) : (stg V 0 t : S1000x2048.Idx → F .f32) = pBlk (vP V) (Fin.ofNat 8 t.val) := by
  have hi : win1_0.index t 0 = 0 ∧ win1_0.index t 1 = t.val ∧ (Fin.ofNat 8 t.val).val = t.val := by
    rcases fin_N1 t with rfl | rfl | rfl | rfl | rfl | rfl | rfl | rfl <;> decide
  funext j
  unfold stg pBlk
  rw [View.read_apply]
  show V (Proc.devRef .tc main_v2) _ = V (Proc.devRef .tc main_v2) _
  congr 1
  funext a
  apply Fin.ext
  match a with
  | ⟨0, _⟩ => show win1_0.index t 0 * 1000 + 1 * (j 0).val = (j 0).val; rw [hi.1]; omega
  | ⟨1, _⟩ => show win1_0.index t 1 * 2048 + 1 * (j 1).val = (Fin.ofNat 8 t.val).val * 2048 + (j 1).val; rw [hi.2.1, hi.2.2]; omega

theorem stg1 (t : Fin cfg1.N) : (stg V 1 t : S1x1x2048.Idx → BitVec 32) = lBlk (vL V) (Fin.ofNat 8 t.val) := by
  have hi : win1_1.index t 0 = t.val ∧ win1_1.index t 1 = 0 ∧ win1_1.index t 2 = 0 ∧ (Fin.ofNat 8 t.val).val = t.val := by
    rcases fin_N1 t with rfl | rfl | rfl | rfl | rfl | rfl | rfl | rfl <;> decide
  funext j
  unfold stg lBlk
  rw [View.read_apply]
  show V (Proc.devRef .tc main_v0) _ = V (Proc.devRef .tc main_v0) _
  have h0 : (j 0).val = 0 := Nat.lt_one_iff.mp (j 0).isLt
  have h1 : (j 1).val = 0 := Nat.lt_one_iff.mp (j 1).isLt
  congr 1
  funext a
  apply Fin.ext
  match a with
  | ⟨0, _⟩ => show win1_1.index t 0 * 1 + 1 * (j 0).val = (Fin.ofNat 8 t.val).val; rw [hi.1, hi.2.2.2, h0]; omega
  | ⟨1, _⟩ => show win1_1.index t 1 * 1 + 1 * (j 1).val = 0; rw [hi.2.1, h1]
  | ⟨2, _⟩ => show win1_1.index t 2 * 2048 + 1 * (j 2).val = (j 2).val; rw [hi.2.2.1]; omega

theorem stg2 (t : Fin cfg1.N) : (stg V 2 t : S1000x512.Idx → F .f32) = vC V := by
  have hi : win1_2.index t 0 = 0 ∧ win1_2.index t 1 = 0 := by
    rcases fin_N1 t with rfl | rfl | rfl | rfl | rfl | rfl | rfl | rfl <;> decide
  funext j
  unfold stg
  rw [View.read_apply]
  show V (Proc.devRef .tc main_arg3) _ = V (Proc.devRef .tc main_arg3) _
  congr 1
  funext a
  apply Fin.ext
  match a with
  | ⟨0, _⟩ => show win1_2.index t 0 * 1000 + 1 * (j 0).val = (j 0).val; rw [hi.1]; omega
  | ⟨1, _⟩ => show win1_2.index t 1 * 512 + 1 * (j 1).val = (j 1).val; rw [hi.2]; omega

/-! ## The proof data -/

/-- The accumulator between points: anything before the first, then the two sums so far. -/
def Φacc (c : Dev nD) (n : ℕ) : sProp 𝕄 :=
  iprop(∃ f, pt c (Memref.whole cc1_scratch0) f ∗ ⌜0 < n → (Memref.whole cc1_scratch0 : Memref sig .tc .smem S2 .f32).view.read (Elt F) f = two (vAcc V (n - 1))⌝)

def dat (c : Dev nD) : Dat τ (Elt F) (HIx 1) ℕ UU ℕ cfg1 c where
  A w := V (Proc.devRef .tc (Pipeline.arrRef spec1 w))
  after w t := match w with
    | ⟨0, _⟩ => stg V 0 t
    | ⟨1, _⟩ => stg V 1 t
    | ⟨2, _⟩ => stg V 2 t
    | ⟨3, _⟩ => twoOut (vAcc V 7)
  Φ t := Φacc V c t.val
  q _ := fullShare
  owed _ := 0

theorem before0 (c : Dev nD) (t : Fin cfg1.N) (d) : (dat V c).before 0 t d = pBlk (vP V) (Fin.ofNat 8 t.val) :=
  ((dat V c).before_in_eq_fetched 0 rfl (fun _ => rfl) (fun _ _ _ => rfl) (fun _ => rfl) t d).trans (stg0 V t)
theorem before1 (c : Dev nD) (t : Fin cfg1.N) (d) : (dat V c).before 1 t d = lBlk (vL V) (Fin.ofNat 8 t.val) :=
  ((dat V c).before_in_eq_fetched 1 rfl (fun _ => rfl) (fun _ _ _ => rfl) (fun _ => rfl) t d).trans (stg1 V t)
theorem before2 (c : Dev nD) (t : Fin cfg1.N) (d) : (dat V c).before 2 t d = vC V :=
  ((dat V c).before_in_eq_fetched 2 rfl (fun _ => rfl) (fun _ _ _ => rfl) (fun _ => rfl) t d).trans (stg2 V t)

/-! ## The body's branches, by the point -/

theorem cond_first (t : Fin cfg1.N) :
    Scalar.cmpi .ne (Scalar.extui (Scalar.cmpi .eq (BitVec.ofNat 32 ((grid1.coords t) 0).val) 0#32) : BitVec 32) 0#32 = 1#1 ↔ t.val = 0 := by
  rcases fin_N1 t with rfl | rfl | rfl | rfl | rfl | rfl | rfl | rfl <;> decide
theorem cond_later (t : Fin cfg1.N) :
    Scalar.cmpi .ne (Scalar.extui (Scalar.cmpi .sgt (BitVec.ofNat 32 ((grid1.coords t) 0).val) 0#32) : BitVec 32) 0#32 = 1#1 ↔ t.val ≠ 0 := by
  rcases fin_N1 t with rfl | rfl | rfl | rfl | rfl | rfl | rfl | rfl <;> decide
theorem cond_last (t : Fin cfg1.N) : k1_cond3 (grid1.coords t) = 1#1 ↔ t.val = 7 := by
  rcases fin_N1 t with rfl | rfl | rfl | rfl | rfl | rfl | rfl | rfl <;> decide

theorem owns_pt {c : Dev nD} {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

theorem idle3_last {t : Fin cfg1.N} (h : t.val = 7) : cfg1.idle 3 (cfg1.grid.coords t) = false := by
  show (!(k1_cond3 (grid1.coords t) == 1#1)) = false
  rw [(cond_last t).mpr h]; rfl
theorem idle3_rest {t : Fin cfg1.N} (h : ¬ t.val = 7) : cfg1.idle 3 (cfg1.grid.coords t) = true := by
  show (!(k1_cond3 (grid1.coords t) == 1#1)) = true
  rw [Bool.not_eq_true', beq_eq_false_iff_ne]
  exact fun e => h ((cond_last t).mp e)
theorem flush3_rest {t : Fin cfg1.N} (h : ¬ t.val = 7) : (cfg1.win 3).flush t = false := by
  rw [← Bool.not_eq_true]
  intro e
  have := (flush1_3 t).mp e
  have hN : t.val < 8 := t.isLt
  omega

/-- The body at a point takes the sums before it to the sums after it, and leaves the result's block as found until the last point. -/
theorem body_obligation (c : Dev nD) : BodyObligation (dat V c) (defs₀ (F := F)) 𝒱₀ none Set.univ := fun t => by
  rw [bigSep_W1, bigSep_W1]
  rw [show (dat V c).Φ t.castSucc = Φacc V c t.val from rfl, show (dat V c).Φ t.succ = Φacc V c (t.val + 1) from rfl,
    show (dat V c).owesAt none t.succ = (dat V c).owesAt none t.castSucc from rfl]
  unfold Φacc
  have hN : t.val < 8 := t.isLt
  have hb : ((defs₀ (F := F)) .tc cfg1.body (cfg1.bodyArgs t (cfg1.slots t))) = bodyAt1 t := rfl
  rw [hb]
  have w0 : (st1_0 t).IsWhole := hstage1_0 ((cfg1.slots t 0).cast nbuf1_0)
  have w1 : (st1_1 t).IsWhole := hstage1_1 ((cfg1.slots t 1).cast nbuf1_1)
  have w2 : (st1_2 t).IsWhole := hstage1_2 ((cfg1.slots t 2).cast nbuf1_2)
  have w3 : (st1_3 t).IsWhole := hstage1_3 ((cfg1.slots t 3).cast nbuf1_3)
  have a0 : (dat V c).after 0 t = pBlk (vP V) (Fin.ofNat 8 t.val) := stg0 V t
  have a1 : (dat V c).after 1 t = lBlk (vL V) (Fin.ofNat 8 t.val) := stg1 V t
  have a2 : (dat V c).after 2 t = vC V := stg2 V t
  have a3 : (dat V c).after 3 t = twoOut (vAcc V 7) := rfl
  by_cases h7 : t.val = 7
  · rw [idle3_last h7]
    dsimp only
    simp only [owns_pt w0, owns_pt w1, owns_pt w2, owns_pt w3, before0, before1, before2, a0, a1, a2, a3]
    have hz : t.val ≠ 0 := by omega
    iintro ⟨⟨%f5, H5, %h5⟩, Howes, ⟨%d0, %f1, %h1, H1⟩, ⟨%d1, %f2, %h2, H2⟩, ⟨%d2, %f3, %h3, H3⟩, ⟨%d3, %f4, %h4, H4⟩⟩
    iapply (body_last c (grid1.coords t) _ w0 _ w1 _ w2 _ w3 _ (Memref.isWhole_whole _) (fun e => hz ((cond_first t).mp e)) ((cond_later t).mpr hz) ((cond_last t).mpr h7) f1 f2 f3 f4 f5 (h5 (Nat.pos_of_ne_zero hz)) _)
    isplitl [H1]; · iexact H1
    isplitl [H2]; · iexact H2
    isplitl [H3]; · iexact H3
    isplitl [H4]; · iexact H4
    isplitl [H5]; · iexact H5
    iintro ⟨H1, H2, H3, ⟨%g4, H4, %e4⟩, ⟨%g5, H5, %e5⟩⟩
    isplitl [H5]
    · iexists g5; isplitl [H5]; · iexact H5
      ipureintro; intro _; rw [e5, h1, h2, h3]; exact congrArg two (acc_step _ _ _ hz).symm
    isplitl [Howes]; · iexact Howes
    isplitl [H1]; · iexists f1; isplitr; (· ipureintro; exact h1); iexact H1
    isplitl [H2]; · iexists f2; isplitr; (· ipureintro; exact h2); iexact H2
    isplitl [H3]; · iexists f3; isplitr; (· ipureintro; exact h3); iexact H3
    iexists g4; isplitr; swap; (· iexact H4)
    ipureintro; rw [e4, h1, h2, h3]; exact congrArg twoOut ((acc_step _ _ _ hz).symm.trans (congrArg (acc _ _ _) h7))
  · rw [idle3_rest h7, flush3_rest h7]
    dsimp only
    simp only [owns_pt w0, owns_pt w1, owns_pt w2, owns_pt w3, before0, before1, before2, a0, a1, a2, a3]
    by_cases hz : t.val = 0
    · iintro ⟨⟨%f5, H5, %h5⟩, Howes, ⟨%d0, %f1, %h1, H1⟩, ⟨%d1, %f2, %h2, H2⟩, ⟨%d2, %f3, %h3, H3⟩, ⟨%d3, %f4, %h4, H4⟩⟩
      iapply (body_first c (grid1.coords t) _ w0 _ w1 _ w2 _ w3 _ (Memref.isWhole_whole _) ((cond_first t).mpr hz) (fun e => (cond_later t).mp e hz) (fun e => h7 ((cond_last t).mp e)) f1 f2 f3 f4 f5 _)
      isplitl [H1]; · iexact H1
      isplitl [H2]; · iexact H2
      isplitl [H3]; · iexact H3
      isplitl [H4]; · iexact H4
      isplitl [H5]; · iexact H5
      iintro ⟨H1, H2, H3, H4, ⟨%g5, H5, %e5⟩⟩
      isplitl [H5]
      · iexists g5; isplitl [H5]; · iexact H5
        ipureintro; intro _; rw [e5, h1, h2, h3]; rw [hz]; rfl
      isplitl [Howes]; · iexact Howes
      isplitl [H1]; · iexists f1; isplitr; (· ipureintro; exact h1); iexact H1
      isplitl [H2]; · iexists f2; isplitr; (· ipureintro; exact h2); iexact H2
      isplitl [H3]; · iexists f3; isplitr; (· ipureintro; exact h3); iexact H3
      iexists d3; iexists f4; isplitr; (· ipureintro; exact h4); iexact H4
    · iintro ⟨⟨%f5, H5, %h5⟩, Howes, ⟨%d0, %f1, %h1, H1⟩, ⟨%d1, %f2, %h2, H2⟩, ⟨%d2, %f3, %h3, H3⟩, ⟨%d3, %f4, %h4, H4⟩⟩
      iapply (body_mid c (grid1.coords t) _ w0 _ w1 _ w2 _ w3 _ (Memref.isWhole_whole _) (fun e => hz ((cond_first t).mp e)) ((cond_later t).mpr hz) (fun e => h7 ((cond_last t).mp e)) f1 f2 f3 f4 f5 (h5 (Nat.pos_of_ne_zero hz)) _)
      isplitl [H1]; · iexact H1
      isplitl [H2]; · iexact H2
      isplitl [H3]; · iexact H3
      isplitl [H4]; · iexact H4
      isplitl [H5]; · iexact H5
      iintro ⟨H1, H2, H3, H4, ⟨%g5, H5, %e5⟩⟩
      isplitl [H5]
      · iexists g5; isplitl [H5]; · iexact H5
        ipureintro; intro _; rw [e5, h1, h2, h3]; exact congrArg two (acc_step _ _ _ hz).symm
      isplitl [Howes]; · iexact Howes
      isplitl [H1]; · iexists f1; isplitr; (· ipureintro; exact h1); iexact H1
      isplitl [H2]; · iexists f2; isplitr; (· ipureintro; exact h2); iexact H2
      isplitl [H3]; · iexists f3; isplitr; (· ipureintro; exact h3); iexact H3
      iexists d3; iexists f4; isplitr; (· ipureintro; exact h4); iexact H4

/-! ## The region -/

/-- The result array's contents after the region, read at the array's own index. -/
theorem final_out (c : Dev nD) : (dat V c).arrAt 3 cfg1.N = (twoOut (vAcc V 7) : S1x2.Idx → F .f32) :=
  (dat V c).arrAt_eq_of_cover 3 (twoOut (vAcc V 7) : S1x2.Idx → F .f32) (fun t hf => by
      have hN : t.val < 8 := t.isLt
      obtain rfl : t = t1_7 := Fin.ext (by have := (flush1_3 t).mp hf; show t.val = 7; omega)
      have hz' : (fun a => win1_3.index t1_7 a * main_v3.ty.shape.size a) = fun _ => 0 := funext fun a => by fin_cases a <;> decide
      exact (Memref.read_access_unit_zero (Elt F) main_v3 hz' (fun a => by rw [congrFun hz' a]; simp) (twoOut (vAcc V 7) : S1x2.Idx → F .f32)).symm) fun i =>
    ⟨t1_7, (flush1_3 t1_7).mpr rfl, by
      show i ∈ ((View.whole main_v3).slice (win1_3.rect t1_7)).set
      rw [View.set_slice_whole, Rect.mem_set_unit]
      intro a
      have h0 : (i 0 : Nat) < 1 := (i 0).isLt
      have h1 : (i 1 : Nat) < 2 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 2 from by decide +kernel]; omega⟩

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c := fun _ c => dat V c

/-- No unit is owed through the region, so every wait of the pipeline's own is allowed. -/
theorem cut : Pipeline.LevelCut (nD := nD) (τ := τ) (pcfgs (F := F)) adm (none : HIx 1) (K (F := F)).L (K (F := F)).lev 0 (fun _ => 0) (fun _ => 0) where
  hι _ _ _ := Finset.mem_univ _
  hιb _ _ _ := le_rfl
  hD _ _ _ h := absurd h (Nat.lt_irrefl 0)

def reg : Pipeline.RegionSeg (pcfgs (F := F)) adm (pdats V) (none : HIx 1) defs₀ 𝒱₀ (K (F := F)).L (K (F := F)).lev 0 :=
  Pipeline.RegionSeg.ofHeldIn (pcfgs (F := F)) adm (pdats V) (none : HIx 1) defs₀ 𝒱₀ (K (F := F)).L (K (F := F)).lev 0 (fun _ => 0)
    (Pipeline.ucRefs τ sig) (fun _ => BI.emp) (fun _ => BI.emp) (Pipeline.LaunchFacts.toP launch1) rfl
    (fun c => (body_obligation V c).loose) (fun _ _ => rfl) (fun _ => rfl) (fun c w => (dat V c).share_full (fun _ => rfl) w)
    (fun c => by
      rw [show (pdats V 0 c).Φ 0 = Φacc V c 0 from rfl, show (Pipeline.scopedRest (Pipeline.pin (pcfgs (F := F)) adm 0).spec c : sProp 𝕄) = _ from scopedRest1_eq c]
      unfold Φacc
      iintro ⟨⟨%f, H⟩, -⟩
      iexists f; isplitl [H]; · iexact H
      ipureintro; exact fun h => absurd h (Nat.lt_irrefl 0))
    (fun c => by
      rw [show (pdats V 0 c).Φ (Fin.last _) = Φacc V c 8 from rfl, show (Pipeline.scopedRest (Pipeline.pin (pcfgs (F := F)) adm 0).spec c : sProp 𝕄) = _ from scopedRest1_eq c]
      unfold Φacc
      iintro ⟨%f, H, -⟩
      isplitl [H]; · iexists f; iexact H
      iempintro)
    (fun _ => 0) cut (fun _ => BI.emp) (fun _ => V) (fun _ _ => rfl)

end Cert.Proof.Run

end

end
-- ==== Proof.Main.lean ====
/-
  The run of the whole program: @main's host operations, the SparseCore call and the TensorCore region between them,
  carried as the contents of the TensorCore's arrays.
-/
module

public import proofs.«01_k».proof.Proof.Entry
public import proofs.«01_k».proof.Proof.Launch

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after launchContents)

variable {F : FTy → Type} [FloatOps F]

local notation "𝕄" => MT nD τ sig (HIx 1) (Elt F) ℕ UU ℕ

/-! ## The pipeline's own ghost state -/

def EP : Emb UP 𝕄 := (Emb.inl : Emb UP (UP × Counters)).trans embR

instance EP_landsIn : (EP : Emb UP 𝕄).LandsIn (upEmb : UEmb _ 𝕄) := by unfold EP; infer_instance

def G (d : Dev nD) : sProp 𝕄 :=
  iprop(Pipeline.cellsGhost (Pipeline.pin (pcfgs (F := F)) adm) EP 0 d ∗ Pipeline.toksInit (Pipeline.pin (pcfgs (F := F)) adm) EP 0 d)

/-! ## The arrays' contents along @main -/

def op0 : HloOp τ sig (Elt F) := StableHlo.reshape main_arg2 main_v0 (rfl : (.i32 : EltTy) = .i32) shapeCasts_S16384_S8x1x2048
def op2 : HloOp τ sig (Elt F) := StableHlo.unary main_arg0 main_v2 ((transpose S1000x16384 [1, 0] · transposes_S16384x1000_S1000x16384_1_0) : (⟨S16384x1000, .f32⟩ : BufTy).Contents (Elt F) → (⟨S1000x16384, .f32⟩ : BufTy).Contents (Elt F))

/-- The host operations after the region. -/
def tailOps : List (HloOp τ sig (Elt F)) :=
  [StableHlo.nullary main_cst (constant S_ .f32 0x00000000#32),
   StableHlo.binary main_v1 main_cst main_v4 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.unary main_v3 main_v5 ((extractStridedSlice S1x1 ![0, 1] · slices_S1x2_S1x1_0_1) : (⟨S1x2, .f32⟩ : BufTy).Contents (Elt F) → (⟨S1x1, .f32⟩ : BufTy).Contents (Elt F)),
   StableHlo.reshape main_v5 main_v6 (rfl : (.f32 : EltTy) = .f32) shapeCasts_S1x1_S_,
   StableHlo.binary main_v4 main_v6 main_v7 (subf : (⟨S_, .f32⟩ : BufTy).Contents (Elt F) → (⟨S_, .f32⟩ : BufTy).Contents (Elt F) → (⟨S_, .f32⟩ : BufTy).Contents (Elt F)),
   StableHlo.unary main_v3 main_v8 ((extractStridedSlice S1x1 ![0, 0] · slices_S1x2_S1x1_0_0) : (⟨S1x2, .f32⟩ : BufTy).Contents (Elt F) → (⟨S1x1, .f32⟩ : BufTy).Contents (Elt F)),
   StableHlo.reshape main_v8 main_v9 (rfl : (.f32 : EltTy) = .f32) shapeCasts_S1x1_S_,
   StableHlo.nullary main_cst_0 (constant S_ .f32 0x3BA3D70A#32),
   StableHlo.binary main_cst_0 main_v7 main_v10 (mulf : (⟨S_, .f32⟩ : BufTy).Contents (Elt F) → (⟨S_, .f32⟩ : BufTy).Contents (Elt F) → (⟨S_, .f32⟩ : BufTy).Contents (Elt F)),
   StableHlo.binary main_v10 main_v7 main_v11 (mulf : (⟨S_, .f32⟩ : BufTy).Contents (Elt F) → (⟨S_, .f32⟩ : BufTy).Contents (Elt F) → (⟨S_, .f32⟩ : BufTy).Contents (Elt F)),
   StableHlo.binary main_v9 main_v11 main_v12 (addf : (⟨S_, .f32⟩ : BufTy).Contents (Elt F) → (⟨S_, .f32⟩ : BufTy).Contents (Elt F) → (⟨S_, .f32⟩ : BufTy).Contents (Elt F)),
   StableHlo.reshape main_v12 main_v13 (rfl : (.f32 : EltTy) = .f32) shapeCasts_S_S_]

theorem main_eq (d : Dev nD) : main (F := F) d = (do
    hlo rfl op0 (fun _ => .ret ⟨⟩)
    sc.run d 0
    hlo rfl op2 (fun _ => .ret ⟨⟩)
    SparseCore.liftProg (.op (.customCall (Pipeline.entry 0) ()) fun _ => .ret ⟨⟩)
    StableHlo.seq tailOps) := rfl

variable (m : (ℓ : Loc nD τ sig) → Buf (Elt F) ℓ) (ρ : Dev nD → PrngReg)

abbrev rX : DevRef τ sig := Proc.devRef .tc main_arg1
abbrev rO : DevRef τ sig := Proc.devRef .tc main_v1

/-- Before the SparseCore call, after it, and at the region's entry. -/
def V1 (d : Dev nD) : Valuation τ sig (Elt F) := (op0 (F := F)).result (launchContents m d)
def V2 (d : Dev nD) : Valuation τ sig (Elt F) := Function.update (V1 m d) rO (outVal (m (xLoc d)))
def V3 (d : Dev nD) : Valuation τ sig (Elt F) := (op2 (F := F)).result (V2 m d)
/-- After the region, and at the end. -/
def V4 (d : Dev nD) : Valuation τ sig (Elt F) := Pipeline.afterRegion (pdats (V3 m d) 0 d) (V3 m d)
def V5 (d : Dev nD) : Valuation τ sig (Elt F) := after tailOps (V4 m d)

theorem V1_x (d : Dev nD) : V1 m d rX = m (xLoc d) :=
  StableHlo.reshape_result_ne main_arg2 main_v0 rfl shapeCasts_S16384_S8x1x2048 (by decide) (by decide) _ (r := main_arg1) (by decide)
theorem V1_o (d : Dev nD) : V1 m d rO = m (oLoc d) :=
  StableHlo.reshape_result_ne main_arg2 main_v0 rfl shapeCasts_S16384_S8x1x2048 (by decide) (by decide) _ (r := main_v1) (by decide)

abbrev uc : Finset (DevRef τ sig) := Pipeline.ucRefs τ sig

theorem ne_xo : rX ≠ rO := StableHlo.devRef_ne_of_ne (by decide)

theorem xo_sub : ({rX, rO} : Finset (DevRef τ sig)) ⊆ uc := by
  unfold uc
  decide +kernel

theorem held_two (d : Dev nD) (W : Valuation τ sig (Elt F)) :
    (held (SparseCore.T d) {rX, rO} W : sProp 𝕄) = iprop((xLoc d ↦{fullShare} W rX) ∗ (oLoc d ↦{fullShare} W rO)) := by
  unfold held
  rw [SparseCore.bigSep_insert' (by simpa using ne_xo), bigSep_singleton]

/-- The arrays before the SparseCore call, split off its two, -/
theorem held_V1 (d : Dev nD) : (held (SparseCore.T d) uc (V1 m d) : sProp 𝕄)
    = iprop(((xLoc d ↦{fullShare} m (xLoc d)) ∗ oLoc d ↦{fullShare} m (oLoc d)) ∗ held (SparseCore.T d) (uc \ {rX, rO}) (V1 m d)) := by
  rw [StableHlo.held_sub_split _ xo_sub, held_two, V1_x, V1_o]

/-- and after it, put back. -/
theorem held_V2 (d : Dev nD) : (held (SparseCore.T d) uc (V2 m d) : sProp 𝕄)
    = iprop(((xLoc d ↦{fullShare} m (xLoc d)) ∗ oLoc d ↦{fullShare} outVal (m (xLoc d))) ∗ held (SparseCore.T d) (uc \ {rX, rO}) (V1 m d)) := by
  rw [StableHlo.held_sub_split _ xo_sub, held_two]
  have h1 : V2 m d rX = m (xLoc d) := by unfold V2; rw [Function.update_of_ne ne_xo]; exact V1_x m d
  have h2 : V2 m d rO = outVal (m (xLoc d)) := by unfold V2; rw [Function.update_self]
  rw [h1, h2, StableHlo.held_congr _ (V := V2 m d) (V' := V1 m d) fun b hb => by
    unfold V2
    exact Function.update_of_ne (fun e => (Finset.mem_sdiff.mp hb).2 (by rw [e]; simp)) _ _]

/-! ## The launch's set-up -/

theorem own_EP (a : UP) (b : Counters) : (BI.own (embR ((a, b) : UP × Counters)) : sProp 𝕄) ⊢ iprop(BI.own (EP a) ∗ BI.own ((Emb.inr.trans embR) b)) :=
  own_pair_emb embR a b

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (_ : UP × Counters)) $$ Hu
  icases H with ⟨HH, HR⟩
  ihave H2 := (own_EP _ _) $$ HR
  icases H2 with ⟨HP, -⟩
  imod (Pipeline.fund_ghost (Pipeline.pin (pcfgs (F := F)) adm) EP cellOf_inj) $$ HP with HG
  icases HG with ⟨HC, HT⟩
  imodintro
  isplitl [HH]; · iexact HH
  isplitl
  · unfold G
    rw [bigSep_sep']
    isplitl [HC]
    · iapply (Entails.of_eq (bigSep_congr fun _ _ => bigSep_univ_of_subsingleton (0 : Fin 1))) $$ HC
    · iapply (Entails.of_eq (bigSep_congr fun _ _ => bigSep_univ_of_subsingleton (0 : Fin 1))) $$ HT
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  rw [show (bigSep Finset.univ fun _ : Thread nD τ => (iprop(emp) : sProp 𝕄)) = iprop(emp) from bigSep_emp_const _]
  iempintro

/-! ## @main on the TensorCore -/

theorem op0_sub : (op0 (F := F)).bufs ⊆ uc := Pipeline.sub_ucRefs _ (by simp [op0])
theorem op2_sub : (op2 (F := F)).bufs ⊆ uc := Pipeline.sub_ucRefs _ (by simp [op2])

theorem tail_sub : ∀ op ∈ (tailOps : List (HloOp τ sig (Elt F))), op.bufs ⊆ uc := by
  intro op h
  refine Pipeline.sub_ucRefs _ ?_
  revert op h
  simp [tailOps]

theorem tail_fresh : ∀ op ∈ (tailOps : List (HloOp τ sig (Elt F))), op.fresh = ∅ := by
  intro op h
  fin_cases h <;> rfl

theorem wBelow_one (thr : Thread nD τ) (W : Waits sig (HIx 1)) : (K (F := F)).WBelow thr W 8 := by
  intro p _
  match p.2 with
  | none => exact Nat.zero_le _
  | some q => exact ((K (F := F)).lev_le_of_blk (q := q) (by trivial)).trans (by omega)

omit [FloatOps F] in
/-- After the one call nothing is owed. -/
theorem Otc_one (d : Dev nD) : (K (F := F)).Otc (nD := nD) (N := 1) d 1 = 0 :=
  Finset.sum_eq_zero fun q _ => if_neg (by omega)

/-- The rest of the TensorCore's state after the call. -/
def restSt (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_one (d : Dev nD) : ((K (F := F)).tcSt EH d 1 : sProp 𝕄) = iprop((∃ W, ⌜(K (F := F)).WBelow (SparseCore.T d) W 8⌝ ∗ owes (SparseCore.T d) 0 W) ∗ restSt d) := by
  rw [← Otc_one (F := F) d]; rfl

theorem tcSt_open (d : Dev nD) : ((K (F := F)).tcSt EH d 1 : sProp 𝕄) ⊢ iprop((∃ W, owes (SparseCore.T d) 0 W) ∗ restSt d) := by
  rw [tcSt_one]
  iintro ⟨⟨%W, -, HO⟩, HR⟩
  isplitl [HO]; · iexists W; iexact HO
  iexact HR

theorem tcSt_close (d : Dev nD) : iprop((∃ W, owes (SparseCore.T d) 0 W) ∗ restSt d) ⊢ ((K (F := F)).tcSt EH d 1 : sProp 𝕄) := by
  rw [tcSt_one]
  iintro ⟨⟨%W, HO⟩, HR⟩
  isplitl [HO]
  · iexists W
    isplitr; · ipureintro; exact wBelow_one _ _
    iexact HO
  iexact HR

theorem arr_sub : Pipeline.arrRefs (τ := τ) (pcfgs (F := F) 0).spec ⊆ uc :=
  Pipeline.arrRefs_sub_ucRefs _ (Pipeline.LaunchFacts.toP (Val := Elt F) launch1).win.arr_unscoped

theorem reg_pre (d : Dev nD) (W : Valuation τ sig (Elt F)) :
    iprop(held (SparseCore.T d) uc W ∗ ((∃ R, owes (SparseCore.T d) 0 R) ∗ emp ∗ emp)) ⊢ (reg W).pre d := by
  exact Pipeline.RegionSeg.ofHeldIn_pre (D := fun _ => 0) (X := fun _ => BI.emp) (Y := fun _ => BI.emp) (R := fun _ => BI.emp) (W := fun _ => W) arr_sub d

theorem reg_post (d : Dev nD) (W : Valuation τ sig (Elt F)) :
    (reg W).post d ⊢ iprop(held (SparseCore.T d) uc (Pipeline.afterRegion (pdats W 0 d) W) ∗ ((∃ R, owes (SparseCore.T d) 0 R) ∗ emp ∗ emp)) := by
  exact Pipeline.RegionSeg.ofHeldIn_post arr_sub d

/-- The region's call: from the arrays at `W` to the arrays after it. -/
theorem region_step [∀ e, Nonempty (Elt F e)] (d : Dev nD) (W : Valuation τ sig (Elt F)) (Q : PUnit → sProp 𝕄) :
    iprop(boundary (SparseCore.T d) ∗ held (SparseCore.T d) uc W ∗ (∃ R, owes (SparseCore.T d) 0 R) ∗ levAts (K (F := F)).L (K (F := F)).lev ∗ G d
        ∗ (iprop(boundary (SparseCore.T d) ∗ held (SparseCore.T d) uc (Pipeline.afterRegion (pdats W 0 d) W) ∗ ∃ R, owes (SparseCore.T d) 0 R) -∗ Q ⟨⟩))
      ⊢ wp frame (wpE (D (F := F)) 𝒱 (SparseCore.T d) none) Set.univ (.op (.customCall (Pipeline.entry 0) ()) fun _ => .ret ⟨⟩) Q := by
  unfold G
  iintro ⟨Hb, Hh, HO, Hlv, ⟨HC, HT⟩, Hk⟩
  iapply (Pipeline.RegionSeg.wp (pcfgs (F := F)) adm (pdats W) (none : HIx 1) cellOf_inj EP defs₀ 𝒱₀ (K (F := F)).L (K (F := F)).lev
    (reg W) d none (fun _ h => nomatch h) (fun _ => .ret ⟨⟩) Q)
  isplitl [Hk]
  · iintro ⟨Hb, HP⟩
    ihave HP' := (reg_post d W) $$ HP
    icases HP' with ⟨Hh, HO, -⟩
    rw [wp_ret]; imodintro
    iapply Hk
    isplitl [Hb]; · iexact Hb
    isplitl [Hh]; · iexact Hh
    iexact HO
  isplitl [Hb]; · iexact Hb
  isplitl [Hh HO]
  · iapply (reg_pre d W)
    isplitl [Hh]; · iexact Hh
    isplitl [HO]; · iexact HO
    isplitl <;> iempintro
  isplitl [Hlv]; · iexact Hlv
  isplitl [HC] <;> iassumption

/-- @main on device `d`'s TensorCore: the arrays run from the launch's contents to `V5`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ held (SparseCore.T d) uc (V5 m d) ∗ (K (F := F)).tcEnd d) := by
  unfold SparseCore.Cfg.tcRes SparseCore.Cfg.tcEnd
  rw [show (unscopedBufs d (fun b => m ((SparseCore.T d).loc b)) : sProp 𝕄) = held (SparseCore.T d) uc (launchContents m d) from
    Pipeline.unscopedBufs_held d (launchContents m d), main_eq]
  simp only [wp_bind]
  iintro ⟨#Hctx, Hst, ⟨Hb, Hh, Hts, -⟩, HG⟩
  ihave H := (show iprop(boundary (SparseCore.T d) ∗ held (SparseCore.T d) uc (launchContents m d)) ⊢ _ from .rfl) $$ [Hb Hh]
  · isplitl [Hb] <;> iassumption
  iapply (StableHlo.wp_hlo_within 𝒱 (SparseCore.T d) none Set.univ op0_sub) $$ H
  iintro ⟨Hb, Hh⟩
  rw [wp_ret]; imodintro
  ihave Hh' := (show held (SparseCore.T d) uc ((op0 (F := F)).result (launchContents m d)) ⊢ _ from Entails.of_eq (held_V1 m d)) $$ Hh
  icases Hh' with ⟨Hxo, Hrest⟩
  iapply ((K (F := F)).wp_run (D (F := F)) 𝒱 (EH := EH) (P := P m) κ d 0) $$ [Hst Hxo Hrest Hb Hts HG]
  isplitr; · iexact Hctx
  isplitl [Hst]; · iexact Hst
  isplitl [Hxo]; · rw [st0_eq]; iexact Hxo
  iintro ⟨Hst, Hdn⟩
  ihave Hdn' := (Entails.of_eq (dn0_eq m d)) $$ Hdn
  ihave H := (show iprop(boundary (SparseCore.T d) ∗ held (SparseCore.T d) uc (V2 m d)) ⊢ _ from .rfl) $$ [Hb Hdn' Hrest]
  · isplitl [Hb]; · iexact Hb
    rw [held_V2]
    isplitl [Hdn'] <;> iassumption
  iapply (StableHlo.wp_hlo_within 𝒱 (SparseCore.T d) none Set.univ op2_sub) $$ H
  iintro ⟨Hb, Hh⟩
  rw [wp_ret]; imodintro
  ihave Hst' := (show (K (F := F)).tcSt EH d ((0 : Fin 1).val + 1) ⊢ _ from tcSt_open d) $$ Hst
  icases Hst' with ⟨HO, HR⟩
  ihave Hlv := (SparseCore.Cfg.ctx_levAts κ) $$ Hctx
  iapply ((K (F := F)).wp_liftProg (D (F := F)) 𝒱 (SparseCore.T d) Set.univ none _ _)
  iapply (region_step d (V3 m d) _)
  isplitl [Hb]; · iexact Hb
  isplitl [Hh]; · iexact Hh
  isplitl [HO]; · iexact HO
  isplitl [Hlv]; · iexact Hlv
  isplitl [HG]; · iexact HG
  iintro ⟨Hb, Hh, HO⟩
  ihave H := (show iprop(boundary (SparseCore.T d) ∗ held (SparseCore.T d) uc (V4 m d)) ⊢ _ from .rfl) $$ [Hb Hh]
  · isplitl [Hb]; · iexact Hb
    iexact Hh
  rw [show (StableHlo.seq tailOps : Prog _ PUnit) = StableHlo.seq tailOps >>= pure from (bind_pure _).symm]
  iapply (StableHlo.wp_seq 𝒱 none Set.univ d uc pure tailOps tail_sub tail_fresh (V4 m d)) $$ H
  iintro ⟨Hb, Hh⟩
  rw [wp_pure]; imodintro
  isplitl [HO HR]
  · iapply (tcSt_close d)
    isplitl [HO] <;> iassumption
  isplitl [Hh]; · iexact Hh
  isplitl [Hb] <;> iassumption

/-! ## The program's run -/

def fq (d : Dev nD) (s' : Phys nD τ sig (Elt F)) : Prop := ∀ b ∈ uc, s'.mem.mem (d, b) = V5 m d b

theorem hfin (d : Dev nD) (s' : Phys nD τ sig (Elt F)) : iprop(held (SparseCore.T d) uc (V5 m d) ∗ SI s') ⊢ (⌜fq m d s'⌝ : sProp 𝕄) := by
  unfold fq
  iintro ⟨Hh, HSI⟩ %b %hb
  ihave Hb := (show (held (SparseCore.T d) uc (V5 m d) : sProp 𝕄) ⊢ iprop((((d, b) : Loc nD τ sig) ↦{fullShare} V5 m d b)) from bigSep_elim hb) $$ Hh
  ihave H := (SI_pointsTo_agree (st := s') (ℓ := (d, b)) (I := Finset.univ) (q := fullShare) (f := V5 m d b)) $$ [HSI Hb]
  · isplitl [HSI] <;> iassumption
  icases H with %h
  ipureintro
  exact funext fun i => h i (Finset.mem_univ i)

def QC : PUnit × MemSt nD τ sig (Elt F) → Prop := fun r => (∀ c : Dev nD, ∀ b ∈ uc, r.2.mem (c, b) = V5 m c b) ∧ r.2.sem = fun _ => 0

/-- The program runs to its end, its arrays left at `V5` and no semaphore counting. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (fun d => held (SparseCore.T d) uc (V5 m d)) (u₀ (F := F)) (sep_elim_left.trans (hu₀ m)) (hmain m ρ) (fq m) (hfin m) (QC m) (fun _ h hz => ⟨h, hz⟩)

end Cert.Proof.Run

end

end
-- ==== Proof.Ends.lean ====
/-
  What the run leaves in the program's arguments and in its result, and the two kernel frames.
-/
module

public import proofs.«01_k».proof.Proof.Main

@[expose] public section

noncomputable section

namespace Cert.Proof.Run

open Cert.KernelIdeal Cert.KernelIdeal.Gen

open Idealize.ShloMosaic
open Idealize.ShloMosaic.TcCoe
open Idealize.ShloMosaic.ValueIdx (ix1 ix2 ix3)
open Idealize.SL Idealize.SL.Sem
open Idealize.ShloMosaic.StableHlo (after launchContents)

variable {F : FTy → Type} [FloatOps F]

variable (m : (ℓ : Loc nD τ sig) → Buf (Elt F) ℓ) (d : Dev nD)

/-- A reference nothing writes keeps the launch's contents. -/
theorem V3_keeps (r : Ref sig .tc) (h : r ≠ main_v0 ∧ r ≠ main_v1 ∧ r ≠ main_v2) : V3 m d (Proc.devRef .tc r) = m (d, Proc.devRef .tc r) := by
  unfold V3 op2
  rw [StableHlo.unary_result_ne' (h := h.2.2)]
  unfold V2
  rw [Function.update_of_ne (StableHlo.devRef_ne_of_ne h.2.1)]
  unfold V1 op0
  rw [StableHlo.reshape_result_ne' (h := h.1)]

theorem V4_keeps (r : Ref sig .tc) (h : r ≠ main_v3) : V4 m d (Proc.devRef .tc r) = V3 m d (Proc.devRef .tc r) := by
  refine Pipeline.afterRegion_keeps _ _ (Pipeline.LaunchFacts.toP (Val := Elt F) launch1).win.arr_inj (fun _ => rfl) r fun w e => ?_
  match w with
  | 0 => rfl
  | 1 => rfl
  | 2 => rfl
  | 3 => exact absurd e.symm h

theorem V4_out : V4 m d (Proc.devRef .tc main_v3) = (twoOut (vAcc (V3 m d) 7) : S1x2.Idx → F .f32) :=
  (Pipeline.afterRegion_arr _ _ (Pipeline.LaunchFacts.toP (Val := Elt F) launch1).win.arr_inj 3).trans (final_out (V3 m d) d)

/-- The references the last line writes. -/
abbrev tailRefs : List (Ref sig .tc) :=
  [main_cst, main_v4, main_v5, main_v6, main_v7, main_v8, main_v9, main_cst_0, main_v10, main_v11, main_v12, main_v13]

theorem V5_keeps (r : Ref sig .tc) (h : r ∉ tailRefs) : V5 m d (Proc.devRef .tc r) = V4 m d (Proc.devRef .tc r) :=
  StableHlo.after_of_writes_sub _ _ (StableHlo.forall_writes_sub_of_map (W := tailRefs) rfl) h

theorem V5_arg (r : Ref sig .tc) (h : r ∉ tailRefs) (h3 : r ≠ main_v3) (h' : r ≠ main_v0 ∧ r ≠ main_v1 ∧ r ≠ main_v2) :
    V5 m d (Proc.devRef .tc r) = m (d, Proc.devRef .tc r) :=
  (V5_keeps m d r h).trans ((V4_keeps m d r h3).trans (V3_keeps m d r h'))

theorem V4_v1 : V4 m d rO = outVal (m (xLoc d)) := by
  rw [V4_keeps m d main_v1 (by decide)]
  unfold V3 op2
  rw [StableHlo.unary_result_ne' (h := (by decide : main_v1 ≠ main_v2))]
  unfold V2
  rw [Function.update_self]

/-- The last line's result from the partial sums and the region's pair. -/
def tailVal (o : S32x16.Idx → F .f32) (t : S1x2.Idx → F .f32) : S_.Idx → F .f32 :=
  let xs := Host.reduceAdd o (constant S_ .f32 0x00000000#32) reducesTo_S32x16_S_d0_1 h_S_
  let b := subf xs (shapeCast S_ (extractStridedSlice S1x1 ![0, 1] t slices_S1x2_S1x1_0_1) shapeCasts_S1x1_S_)
  shapeCast S_ (addf (shapeCast S_ (extractStridedSlice S1x1 ![0, 0] t slices_S1x2_S1x1_0_0) shapeCasts_S1x1_S_)
    (mulf (mulf (constant S_ .f32 0x3BA3D70A#32) b) b)) shapeCasts_S_S_

theorem V5_out : V5 m d (Proc.devRef .tc main_v13) = tailVal (V4 m d (Proc.devRef .tc main_v1)) (V4 m d (Proc.devRef .tc main_v3)) := by
  unfold V5 tailOps tailVal
  after_results
  rfl

/-- The result as a function of the launch's contents. -/
def outK : S_.Idx → F .f32 := tailVal (outVal (m (xLoc d))) (twoOut (vAcc (V3 m d) 7))

theorem V5_outK : V5 m d (Proc.devRef .tc main_v13) = outK m d :=
  (V5_out m d).trans (congrArg₂ tailVal (V4_v1 m d) (V4_out m d))

theorem mem_uc (r : Ref sig .tc) (h : r.isScoped = false) : (Proc.devRef .tc r : DevRef τ sig) ∈ uc :=
  Finset.mem_filter.mpr ⟨StableHlo.devRef_mem_tcRefs _, fun h' => Bool.false_ne_true (h.symm.trans h')⟩

/-- Every run of the program leaves the four arguments as they were, the result at `outK`, and no semaphore counting. -/
theorem ends {r : PUnit × MemSt nD τ sig (Elt F)} (h : QC m r) :
    (∀ c : Dev nD, r.2.mem ((c.tc : Thread nD τ).loc main_v13) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  ⟨fun c => ⟨(h.1 c _ (mem_uc main_v13 rfl)).trans (V5_outK m c),
    (h.1 c _ (mem_uc main_arg0 rfl)).trans (V5_arg m c main_arg0 (by decide) (by decide) (by decide)),
    (h.1 c _ (mem_uc main_arg1 rfl)).trans (V5_arg m c main_arg1 (by decide) (by decide) (by decide)),
    (h.1 c _ (mem_uc main_arg2 rfl)).trans (V5_arg m c main_arg2 (by decide) (by decide) (by decide)),
    (h.1 c _ (mem_uc main_arg3 rfl)).trans (V5_arg m c main_arg3 (by decide) (by decide) (by decide))⟩, h.2⟩

/-- The frame, over any float values. -/
theorem frame_any [∀ e, Nonempty (Elt F e)] (ρ : Dev nD → PrngReg) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run Cert.KernelIdeal.defs _ _).mono (fun _ h => ⟨fun c => ((ends m h).1 c).2, h.2⟩) (run_main m ρ)

end Cert.Proof.Run

namespace Cert.Proof

open Idealize.ShloMosaic Idealize.SL.Sem

attribute [local instance] Cert.KernelIdeal.Gen.facts

theorem frame_ideal : Cert.quiescent_KernelIdeal := fun m ρ _ => Run.frame_any (F := Ideal) m ρ

end Cert.Proof

end

end
-- ==== Proof.FrameK.lean ====
/-
  The frame of the kernel at machine floats: the two programs have the same text, so the run over any float values is its run.
-/
module

public import proofs.«01_k».proof.Proof.Ends
public import proofs.«01_k».proof.Proof.Gen.Kernel

@[expose] public section

noncomputable section

namespace Cert.Proof

open Idealize.ShloMosaic Idealize.SL.Sem

attribute [local instance] Cert.Kernel.Gen.facts Cert.KernelIdeal.Gen.facts

open Cert.KernelIdeal in
/-- The claim with the other program's names in place of its own. -/
theorem frame_kernel_eq : Cert.quiescent_Kernel = ∀ (m : (ℓ : Loc nD τ sig) → Buf (Elt Bits) ℓ) (ρ : Dev nD → PrngReg), True →
    θ_run (Cert.KernelIdeal.defs (F := Bits)) (Cert.KernelIdeal.threads (F := Bits)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  chain_rfl

theorem frame_kernel : Cert.quiescent_Kernel := by
  rw [frame_kernel_eq]
  exact fun m ρ _ => Run.frame_any (F := Bits) m ρ

end Cert.Proof

end

end
-- ==== Proof.Args.lean ====
/-
  What the claim's condition says of the arguments: every label is a row number, every other number is a real one.
-/
module

public import proofs.«01_k».proof.Pre_args_in_range
public import Idealize.ShloMosaic.Lib.Pointwise
public import Idealize.ShloMosaic.Lib.Affine

@[expose] public section

noncomputable section

namespace Cert.Proof.Args

open Cert.Pre_args_in_range
open Idealize.ShloMosaic

theorem facts : Cert.Pre_args_in_range.Facts where
  bcast_S_S16384 := by decide
  bcast_S_S16384x1000 := by decide
  bcast_S_S16384x512 := by decide
  bcast_S_S1000x512 := by decide

attribute [local instance] facts

theorem ofBits_inf : Ideal.ofBits .f32 0x7F800000#32 = ⊤ := by
  simp [Ideal.ofBits, Ideal.ieee]

/-- An extended real whose absolute value lies below the infinite is a real. -/
theorem real_of_abs {a : EReal} (h : max a (-a) < ⊤) : a = ((a.toReal : ℝ) : EReal) := by
  refine (EReal.coe_toReal ?_ ?_).symm
  · rintro rfl
    exact absurd h (by simp)
  · rintro rfl
    exact absurd h (by simp)

/-- An array all of whose numbers have absolute values below the infinite is one of reals. -/
theorem real_of_all {s : Shape} (hb : S_.BroadcastsInDim s (![] : Fin 0 → Fin s.rank)) (a : FVec Ideal s .f32)
    (h : cmpf .olt (Host.absf a) (broadcastInDim s ![] hb (constant S_ .f32 0x7F800000#32)) = fun _ => 1#1) (i : s.Idx) :
    (a i : EReal) = (((a i : EReal).toReal : ℝ) : EReal) := by
  have hz : (broadcastInDim s ![] hb (constant S_ .f32 0x7F800000#32 : FVec Ideal S_ .f32) i : EReal) = ⊤ := by
    unfold broadcastInDim
    rw [constant_apply, Ideal.ofBits_def, ofBits_inf]
  have h : FloatOps.cmpf .olt (Host.absf a i) (broadcastInDim s ![] hb (constant S_ .f32 0x7F800000#32 : FVec Ideal S_ .f32) i) = 1#1 := congrFun h i
  rw [hz, Ideal.cmpf_def] at h
  refine real_of_abs ?_
  by_contra hn
  have : Ideal.cmp .olt (Host.absf a i) ⊤ = 0#1 := congrArg BitVec.ofBool (decide_eq_false hn)
  rw [this] at h
  exact absurd h (by decide)

/-- A word tested to be a row number is one. -/
theorem label_of_test {a : BitVec 32} (h : IntOp.andi (IntOp.cmpi .sge a 0#32) (IntOp.cmpi .slt a 1000#32) = 1#1) :
    a = BitVec.ofNat 32 (a.toNat % 1000) := by
  obtain ⟨h1, h2⟩ := IntOp.andi_eq_one.1 h
  have h1 := IntOp.cmpi_sge.1 h1
  have h2 := IntOp.cmpi_slt.1 h2
  have e1 : (0#32).toInt = 0 := rfl
  have e2 : (1000#32).toInt = 1000 := rfl
  rw [e1] at h1
  rw [e2] at h2
  have := BitVec.toInt_eq_toNat_cond a
  have := a.isLt
  have h3 : a.toNat < 1000 := by split at * <;> omega
  rw [Nat.mod_eq_of_lt h3]
  exact (BitVec.eq_of_toNat_eq (by rw [BitVec.toNat_ofNat, Nat.mod_eq_of_lt a.isLt])).symm

variable {p : FVec Ideal S16384x1000 .f32} {x : FVec Ideal S16384x512 .f32} {l : IVec S16384 32} {cc : FVec Ideal S1000x512 .f32}

theorem label_of_pre (h : (fn p x l cc).1 = fun _ => 1#1) (b : Fin 16384) : l (ix1 b) = BitVec.ofNat 32 ((l (ix1 b)).toNat % 1000) :=
  label_of_test (congrFun h (ix1 b))

theorem p_of_pre (h : (fn p x l cc).2.1 = fun _ => 1#1) (i : S16384x1000.Idx) : (p i : EReal) = (((p i : EReal).toReal : ℝ) : EReal) :=
  real_of_all _ p h i

theorem x_of_pre (h : (fn p x l cc).2.2.1 = fun _ => 1#1) (i : S16384x512.Idx) : (x i : EReal) = (((x i : EReal).toReal : ℝ) : EReal) :=
  real_of_all _ x h i

theorem c_of_pre (h : (fn p x l cc).2.2.2 = fun _ => 1#1) (i : S1000x512.Idx) : (cc i : EReal) = (((cc i : EReal).toReal : ℝ) : EReal) :=
  real_of_all _ cc h i

end Cert.Proof.Args

end

end
-- ==== Proof.BlockRead.lean ====
/-
  The accelerator's two values of one block of labels, read down to sums over its rows and columns.
-/
module

public import proofs.«01_k».proof.Proof.Gen.KernelIdeal.Skeleton
public import Idealize.ShloMosaic.Lib.Pointwise

@[expose] public section

noncomputable section

namespace Cert.Proof.Val

open Cert.KernelIdeal Cert.KernelIdeal.Gen
open Idealize.ShloMosaic

set_option maxRecDepth 16384

/-- The centers' value: each row's count of its labels times the sum of the row's centers. -/
theorem pay4_read (l : Vec Ideal S1x1x2048 .i32) (cc : Vec Ideal S1000x512 .f32) :
    k1_pay4 (F := Ideal) l cc = ∑ r : Fin 1000,
      (∑ k : Fin 2048, FloatOps.sitofp (F := Ideal) .f32 (BitVec.setWidth 32 (IntOp.cmpi .eq (BitVec.ofNat 32 r.val) (l (ix3 0 0 k))))) * ∑ j : Fin 512, cc (ix2 r j) := by
  pointwise [k1_pay4, k1_pay3]
  simp only [Fintype.sum_unique]

/-- The logits' value: the columns' log-sum-exps less the entries at the labels. -/
theorem pay5_read (p : Vec Ideal S1000x2048 .f32) (l : Vec Ideal S1x1x2048 .i32) :
    k1_pay5 (F := Ideal) p l
      = (∑ k : Fin 2048, (Finset.univ.fold max (Ideal.ofBits .f32 0xFF800000#32) (fun r : Fin 1000 => p (ix2 r k))
          + Ideal.log (∑ r : Fin 1000, Ideal.exp (p (ix2 r k)
              - Finset.univ.fold max (Ideal.ofBits .f32 0xFF800000#32) fun r : Fin 1000 => p (ix2 r k)))))
        - ∑ r : Fin 1000, ∑ k : Fin 2048, Scalar.select (IntOp.cmpi .eq (BitVec.ofNat 32 r.val) (l (ix3 0 0 k))) (p (ix2 r k)) (0 : EReal) := by
  pointwise [k1_pay5, k1_pay3]
  simp only [Fintype.sum_unique]

end Cert.Proof.Val

end

end
-- ==== Proof.RealSide.lean ====
/-
  The real numbers behind the two programs' extended reals: sums, a column's maximum, and the logarithm of a sum of exponentials.
-/
module

public import Idealize.ShloMosaic.PureOps.Ideal

@[expose] public section

noncomputable section

namespace Cert.Proof.Val

open Idealize.ShloMosaic
open scoped BigOperators

/-- A finite sum of reals, taken among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of a thousand reals. -/
def top (f : Fin 1000 → ℝ) : ℝ := (Finset.univ.fold max (⊥ : EReal) fun k => (f k : EReal)).toReal

theorem fold_max_coe (f : Fin 1000 → ℝ) : (Finset.univ.fold max (⊥ : EReal) fun k => (f k : EReal)) = (top f : EReal) := by
  refine (EReal.coe_toReal ?_ ?_).symm
  · refine ne_of_lt ((Finset.fold_max_lt _).2 ⟨bot_lt_top, fun k _ => EReal.coe_lt_top _⟩)
  · refine ne_of_gt ((Finset.lt_fold_max _).2 (Or.inr ⟨0, Finset.mem_univ _, EReal.bot_lt_coe _⟩))

/-- The sum of the exponentials of the differences from the greatest, and its logarithm. -/
def expSum (f : Fin 1000 → ℝ) : ℝ := ∑ k, Real.exp (f k - top f)

theorem expSum_pos (f : Fin 1000 → ℝ) : 0 < expSum f :=
  Finset.sum_pos (fun k _ => Real.exp_pos _) ⟨0, Finset.mem_univ _⟩

def lse (f : Fin 1000 → ℝ) : ℝ := top f + Real.log (expSum f)

theorem exp_sub_coe (a b : ℝ) : Ideal.exp ((a : EReal) - (b : EReal)) = ((Real.exp (a - b) : ℝ) : EReal) := by
  rw [← EReal.coe_sub]; rfl

theorem log_expSum (f : Fin 1000 → ℝ) : Ideal.log (∑ k, Ideal.exp ((f k : EReal) - (top f : EReal))) = ((Real.log (expSum f) : ℝ) : EReal) := by
  rw [Finset.sum_congr rfl fun k _ => exp_sub_coe (f k) (top f), sum_coe]
  show (if expSum f ≤ 0 then (⊥ : EReal) else (Real.log (expSum f) : EReal)) = _
  rw [if_neg (not_le.2 (expSum_pos f))]

/-- The least pattern of all denotes the bottom. -/
theorem ofBits_neg_inf : Ideal.ofBits .f32 0xFF800000#32 = ⊥ := by
  simp [Ideal.ofBits, Ideal.ieee]

/-- The weight of the second loss. -/
def weight : ℝ := (Ideal.ofBits .f32 0x3BA3D70A#32).toReal

theorem ofBits_weight : Ideal.ofBits .f32 0x3BA3D70A#32 = (weight : EReal) := by
  refine (EReal.coe_toReal ?_ ?_).symm <;> simp [Ideal.ofBits, Ideal.ieee] <;> rw [← EReal.coe_mul]
  · exact EReal.coe_ne_top _
  · exact EReal.coe_ne_bot _

theorem ofBits_two : Ideal.ofBits .f32 0x40000000#32 = ((2 : ℝ) : EReal) := by
  simp [Ideal.ofBits, Ideal.ieee]
  rw [← EReal.coe_mul]
  norm_num

/-- The number both programs leave: the first loss, and the weighted square of the second difference. -/
def answer (P : Fin 16384 → Fin 1000 → ℝ) (X : Fin 16384 → Fin 512 → ℝ) (L : Fin 16384 → Fin 1000) (C : Fin 1000 → Fin 512 → ℝ) : ℝ :=
  (∑ b, (lse (P b) - P b (L b))) + weight * ((∑ b, ∑ j, X b j) - ∑ b, ∑ j, C (L b) j) * ((∑ b, ∑ j, X b j) - ∑ b, ∑ j, C (L b) j)

/-- Among a thousand places, the sum that keeps one of them. -/
theorem sum_pick (f : Fin 1000 → ℝ) (l : Fin 1000) : ∑ r, (if r = l then f r else 0) = f l := by
  rw [Finset.sum_ite_eq' Finset.univ l f, if_pos (Finset.mem_univ _)]

/-- Two thousand forty-eight labels counted against a thousand values add up to the labels' values. -/
theorem sum_count {n : ℕ} (l : Fin n → Fin 1000) (f : Fin 1000 → ℝ) :
    ∑ r, (∑ k, if r = l k then (1 : ℝ) else 0) * f r = ∑ k, f (l k) := by
  simp only [Finset.sum_mul]
  rw [Finset.sum_comm]
  refine Finset.sum_congr rfl fun k _ => ?_
  simp only [ite_mul, one_mul, zero_mul]
  exact sum_pick f (l k)

end Cert.Proof.Val

end

end
-- ==== Proof.BlockValue.lean ====
/-
  What the accelerator's two values of one block of labels are, among the reals.
-/
module

public import proofs.«01_k».proof.Proof.BlockRead
public import proofs.«01_k».proof.Proof.RealSide
public import Idealize.ShloMosaic.Lib.Affine

@[expose] public section

noncomputable section

namespace Cert.Proof.Val

open Cert.KernelIdeal Cert.KernelIdeal.Gen
open Idealize.ShloMosaic

/-- A row number's word is a label's word only where they are the same number. -/
theorem word_eq (r l : Fin 1000) : (IntOp.cmpi .eq (BitVec.ofNat 32 r.val) (BitVec.ofNat 32 l.val) = 1#1) ↔ r = l := by
  rw [IntOp.cmpi_eq]
  constructor
  · intro h
    have h' := congrArg BitVec.toNat h
    simp only [BitVec.toNat_ofNat] at h'
    exact Fin.ext (by omega)
  · rintro rfl; rfl

theorem bit_cases (b : BitVec 1) : b = 1#1 ∨ b = 0#1 := by
  revert b; decide

/-- One row's indicator of one label, as a float. -/
theorem count_one (r l : Fin 1000) :
    (FloatOps.sitofp (F := Ideal) .f32 (BitVec.setWidth 32 (IntOp.cmpi .eq (BitVec.ofNat 32 r.val) (BitVec.ofNat 32 l.val))) : EReal)
      = ((if r = l then (1 : ℝ) else 0 : ℝ) : EReal) := by
  show (((BitVec.setWidth 32 (IntOp.cmpi .eq (BitVec.ofNat 32 r.val) (BitVec.ofNat 32 l.val))).toInt : ℝ) : EReal) = _
  by_cases h : r = l
  · rw [if_pos h, (word_eq r l).2 h]; simp
  · rw [if_neg h, (bit_cases _).resolve_left fun e => h ((word_eq r l).1 e)]; simp

/-- One row's entry where the row is the label, zero elsewhere. -/
theorem pick_one (r l : Fin 1000) (a : ℝ) :
    Scalar.select (IntOp.cmpi .eq (BitVec.ofNat 32 r.val) (BitVec.ofNat 32 l.val)) (a : EReal) 0 = ((if r = l then a else 0 : ℝ) : EReal) := by
  by_cases h : r = l
  · rw [if_pos h, (word_eq r l).2 h]; rfl
  · rw [if_neg h, (bit_cases _).resolve_left fun e => h ((word_eq r l).1 e)]; rfl

/-- The block's labels, counted row by row against the sums of the centers' rows: the labels' centers, summed. -/
theorem pay4_real (l : Vec Ideal S1x1x2048 .i32) (cc : Vec Ideal S1000x512 .f32) (L : Fin 2048 → Fin 1000) (C : Fin 1000 → Fin 512 → ℝ)
    (hl : ∀ k, l (ix3 0 0 k) = BitVec.ofNat 32 (L k).val) (hc : ∀ r j, cc (ix2 r j) = (C r j : EReal)) :
    k1_pay4 (F := Ideal) l cc = ((∑ k, ∑ j, C (L k) j : ℝ) : EReal) := by
  rw [pay4_read]
  simp only [hl, hc, count_one, sum_coe, ← EReal.coe_mul]
  exact congrArg _ (sum_count L fun r => ∑ j, C r j)

/-- The block's log-sum-exps less the labels' entries. -/
theorem pay5_real (p : Vec Ideal S1000x2048 .f32) (l : Vec Ideal S1x1x2048 .i32) (P : Fin 2048 → Fin 1000 → ℝ) (L : Fin 2048 → Fin 1000)
    (hp : ∀ r k, p (ix2 r k) = (P k r : EReal)) (hl : ∀ k, l (ix3 0 0 k) = BitVec.ofNat 32 (L k).val) :
    k1_pay5 (F := Ideal) p l = ((∑ k, (lse (P k) - P k (L k)) : ℝ) : EReal) := by
  rw [pay5_read]
  simp only [hl, hp, pick_one, ofBits_neg_inf, fold_max_coe, log_expSum, ← EReal.coe_add, sum_coe]
  rw [← EReal.coe_sub]
  refine congrArg _ ?_
  rw [Finset.sum_comm (s := (Finset.univ : Finset (Fin 1000)))]
  simp only [sum_pick, Finset.sum_sub_distrib, lse]

end Cert.Proof.Val

end

end
-- ==== Proof.SumValue.lean ====
/-
  The tiles' partial sums add up to the sum of the whole array, and the accelerator's points to the sum over all the labels.
-/
module

public import proofs.«01_k».proof.Proof.Tile
public import proofs.«01_k».proof.Proof.Entry
public import proofs.«01_k».proof.Proof.BlockValue
public import Idealize.ShloMosaic.Lib.Pointwise.IndexBridge
public import Idealize.ShloMosaic.Lib.Pointwise.Sums

@[expose] public section

noncomputable section

namespace Cert.Proof.Val

open Cert.KernelIdeal Cert.KernelIdeal.Gen
open Idealize.ShloMosaic
open Cert.Proof.Run (Acc4 seg segSum rowStep rows chunk tileAcc tileSum outVal pBlk lBlk ptVal addPt acc)

/-- A lane of the four running sums, added up. -/
def lane (a : Acc4 Ideal) (i : S16.Idx) : EReal := a.1 i + a.2.1 i + a.2.2.1 i + a.2.2.2 i

theorem segSum_lane (g : S64x512.Idx → EReal) (k : Fin 64) (q : Fin 4) (a : FVec Ideal S16 .f32) (i : S16.Idx) :
    segSum (F := Ideal) g k q a i = a i + ∑ j : Fin 8, seg (F := Ideal) g k ⟨4 * j.val + q.val, by omega⟩ i := by
  have h : ∀ (l : List (Fin 8)) (a : FVec Ideal S16 .f32),
      (l.foldl (fun a j => addf a (seg (F := Ideal) g k ⟨4 * j.val + q.val, by omega⟩)) a) i
        = a i + (l.map fun j => seg (F := Ideal) g k ⟨4 * j.val + q.val, by omega⟩ i).sum := by
    intro l
    induction l with
    | nil => intro a; simp
    | cons j l ih =>
      intro a
      rw [List.foldl_cons, ih, List.map_cons, List.sum_cons, ← add_assoc]
      rfl
  unfold segSum
  rw [h, ← List.ofFn_eq_map, List.sum_ofFn]

/-- A row adds its thirty-two entries of each lane. -/
theorem lane_rowStep (g : S64x512.Idx → EReal) (k : Fin 64) (a : Acc4 Ideal) (i : S16.Idx) :
    lane (rowStep (F := Ideal) g k a) i = lane a i + ∑ c : Fin 32, seg (F := Ideal) g k c i := by
  unfold lane rowStep
  simp only [segSum_lane]
  rw [Fin.sum_univ_tiles 8 4 rfl fun c : Fin 32 => seg (F := Ideal) g k c i]
  have e : ∀ (j : Fin 8), ∑ t : Fin 4, seg (F := Ideal) g k ⟨j.val * 4 + t.val, by omega⟩ i
      = seg (F := Ideal) g k ⟨4 * j.val + (0 : Fin 4).val, by omega⟩ i + seg (F := Ideal) g k ⟨4 * j.val + (1 : Fin 4).val, by omega⟩ i
        + seg (F := Ideal) g k ⟨4 * j.val + (2 : Fin 4).val, by omega⟩ i + seg (F := Ideal) g k ⟨4 * j.val + (3 : Fin 4).val, by omega⟩ i := by
    intro j
    rw [Fin.sum_univ_four]
    simp only [Nat.mul_comm j.val 4]
  rw [Finset.sum_congr rfl fun j _ => e j]
  simp only [Finset.sum_add_distrib]
  ac_rfl

theorem lane_rows (g : S64x512.Idx → EReal) (a : Acc4 Ideal) (i : S16.Idx) (n : ℕ) (hn : n ≤ 64) :
    lane (rows (F := Ideal) g n a) i = lane a i + ∑ k : Fin n, ∑ c : Fin 32, seg (F := Ideal) g ⟨k.val, by omega⟩ c i := by
  induction n with
  | zero => simp [rows]
  | succ n ih =>
    rw [rows, dif_pos (show n < 64 by omega), lane_rowStep, ih (by omega), Fin.sum_univ_castSucc (n := n), add_assoc]
    rfl

theorem lane_tileAcc (x : S16384x512.Idx → EReal) (w : Fin 32) (i : S16.Idx) (n : ℕ) (hn : n ≤ 8) :
    lane (tileAcc (F := Ideal) x w n) i
      = ∑ b : Fin n, ∑ k : Fin 64, ∑ c : Fin 32, seg (F := Ideal) (chunk (F := Ideal) x w ⟨b.val, by omega⟩) k c i := by
  induction n with
  | zero =>
    rw [tileAcc]
    unfold lane k0_pay94
    show Ideal.ofBits .f32 0x00000000#32 + Ideal.ofBits .f32 0x00000000#32 + Ideal.ofBits .f32 0x00000000#32 + Ideal.ofBits .f32 0x00000000#32 = _
    rw [Ideal.ofBits_zero_f32]
    simp
  | succ n ih =>
    rw [tileAcc, dif_pos (show n < 8 by omega), lane_rows _ _ _ 64 le_rfl, ih (by omega), Fin.sum_univ_castSucc (n := n)]
    rfl

theorem outVal_lane (x : S16384x512.Idx → EReal) (w : Fin 32) (i : Fin 16) :
    outVal (F := Ideal) x (ix2 w i) = lane (tileAcc (F := Ideal) x w 8) (ix1 i) := by
  refine (congrArg (tileSum (F := Ideal) x w) (ix1_eq_valueIdx i).symm).trans ?_
  unfold tileSum
  pointwise [k0_pay13]
  rfl

/-- The partial sums of the thirty-two tiles add up to the array's sum. -/
theorem sum_outVal (x : S16384x512.Idx → EReal) :
    ∑ w : Fin 32, ∑ i : Fin 16, outVal (F := Ideal) x (ix2 w i) = ∑ b : Fin 16384, ∑ j : Fin 512, x (ix2 b j) := by
  rw [Fin.sum_univ_tiles 32 512 rfl fun b : Fin 16384 => ∑ j : Fin 512, x (ix2 b j)]
  refine Finset.sum_congr rfl fun w _ => ?_
  simp only [outVal_lane]
  rw [Finset.sum_congr rfl fun i _ => lane_tileAcc x w (ix1 i) 8 le_rfl, Finset.sum_comm,
    Fin.sum_univ_tiles 8 64 rfl fun b : Fin 512 => ∑ j : Fin 512, x (ix2 ⟨w.val * 512 + b.val, by omega⟩ j)]
  refine Finset.sum_congr rfl fun n _ => ?_
  rw [Finset.sum_comm]
  refine Finset.sum_congr rfl fun k _ => ?_
  rw [Finset.sum_comm, Fin.sum_univ_tiles 32 16 rfl]
  refine Finset.sum_congr rfl fun c _ => Finset.sum_congr rfl fun i _ => ?_
  unfold seg chunk
  simp only [← ix2_eq_valueIdx]
  refine congrArg x (congrArg₂ _ (Fin.ext ?_) (Fin.ext ?_))
  · show 512 * w.val + 64 * n.val + k.val = w.val * 512 + (n.val * 64 + k.val)
    omega
  · show 16 * c.val + i.val = c.val * 16 + i.val
    omega

theorem pBlk_read (p : S1000x16384.Idx → EReal) (t : Fin 8) (r : Fin 1000) (k : Fin 2048) :
    pBlk (F := Ideal) p t (ix2 r k) = p (ix2 r ⟨t.val * 2048 + k.val, by omega⟩) :=
  congrArg p (ix2_eq_valueIdx (n0 := 1000) (n1 := 16384) r ⟨t.val * 2048 + k.val, by omega⟩).symm

theorem lBlk_read (l : S8x1x2048.Idx → BitVec 32) (t : Fin 8) (k : Fin 2048) : lBlk l t (ix3 0 0 k) = l (ix3 t 0 k) :=
  congrArg l (ix3_eq_valueIdx (n0 := 8) (n1 := 1) (n2 := 2048) t 0 k).symm

/-- The accelerator's two sums after all its points. -/
theorem acc_real (p : S1000x16384.Idx → EReal) (l : S8x1x2048.Idx → BitVec 32) (cc : S1000x512.Idx → EReal)
    (P : Fin 16384 → Fin 1000 → ℝ) (L : Fin 16384 → Fin 1000) (C : Fin 1000 → Fin 512 → ℝ)
    (hp : ∀ r b, p (ix2 r b) = (P b r : EReal)) (hc : ∀ r j, cc (ix2 r j) = (C r j : EReal))
    (hl : ∀ (t : Fin 8) (k : Fin 2048), l (ix3 t 0 k) = BitVec.ofNat 32 (L ⟨t.val * 2048 + k.val, by omega⟩).val) :
    acc (F := Ideal) p l cc 7 = (((∑ b, (lse (P b) - P b (L b)) : ℝ) : EReal), ((∑ b, ∑ j, C (L b) j : ℝ) : EReal)) := by
  have hpt : ∀ t : Fin 8, ptVal (F := Ideal) (pBlk (F := Ideal) p t) (lBlk l t) cc
      = (((∑ k : Fin 2048, (lse (P ⟨t.val * 2048 + k.val, by omega⟩) - P ⟨t.val * 2048 + k.val, by omega⟩ (L ⟨t.val * 2048 + k.val, by omega⟩)) : ℝ) : EReal),
        ((∑ k : Fin 2048, ∑ j, C (L ⟨t.val * 2048 + k.val, by omega⟩) j : ℝ) : EReal)) := by
    intro t
    refine Prod.ext ?_ ?_
    · refine pay5_real _ _ (fun k => P ⟨t.val * 2048 + k.val, by omega⟩) (fun k => L ⟨t.val * 2048 + k.val, by omega⟩) (fun r k => ?_) (fun k => ?_)
      · rw [pBlk_read]
        exact hp _ _
      · rw [lBlk_read]
        exact hl t k
    · refine pay4_real _ _ (fun k => L ⟨t.val * 2048 + k.val, by omega⟩) C (fun k => ?_) hc
      rw [lBlk_read]
      exact hl t k
  have hadd : ∀ (a b a' b' : ℝ), addPt (F := Ideal) ((a : EReal), (b : EReal)) ((a' : EReal), (b' : EReal)) = (((a' + a : ℝ) : EReal), ((b' + b : ℝ) : EReal)) := by
    intro a b a' b'
    rw [EReal.coe_add, EReal.coe_add]
    rfl
  rw [Fin.sum_univ_tiles 8 2048 rfl fun b : Fin 16384 => lse (P b) - P b (L b), Fin.sum_univ_tiles 8 2048 rfl fun b : Fin 16384 => ∑ j, C (L b) j]
  simp only [acc]
  simp only [hpt, hadd, Fin.sum_univ_eight]
  rfl

end Cert.Proof.Val

end

end
-- ==== Proof.KernelValue.lean ====
/-
  The kernel's result among the reals.
-/
module

public import proofs.«01_k».proof.Proof.Ends
public import proofs.«01_k».proof.Proof.SumValue

@[expose] public section

noncomputable section

namespace Cert.Proof.Val

open Cert.KernelIdeal Cert.KernelIdeal.Gen
open Idealize.ShloMosaic Idealize.ShloMosaic.TcCoe
open Cert.Proof.Run (outVal twoOut vAcc V1 V2 V3 outK tailVal op0 op2 xLoc rO V3_keeps)
open Idealize.ShloMosaic.StableHlo (launchContents)

variable (m : (ℓ : Loc nD τ sig) → Buf (Elt Ideal) ℓ) (d : Dev nD)

/-- The logits' operand at the entry of the accelerator's region is the transposed argument. -/
theorem entry_p (r : Fin 1000) (b : Fin 16384) :
    (V3 m d (Proc.devRef .tc main_v2) : S1000x16384.Idx → EReal) (ix2 r b) = (m ((d.tc : Thread nD τ).loc main_arg0) : S16384x1000.Idx → EReal) (ix2 b r) := by
  unfold V3 op2
  rw [StableHlo.unary_result]
  have h : V2 m d (Proc.devRef .tc main_arg0) = m ((d.tc : Thread nD τ).loc main_arg0) := by
    unfold V2
    rw [Function.update_of_ne (StableHlo.devRef_ne_of_ne (by decide : main_arg0 ≠ main_v1))]
    unfold V1 op0
    rw [StableHlo.reshape_result_ne' (h := (by decide : main_arg0 ≠ main_v0))]
  rw [h]
  pointwise

/-- The labels' operand is the argument cut in eight rows. -/
theorem entry_l (t : Fin 8) (k : Fin 2048) :
    (V3 m d (Proc.devRef .tc main_v0) : S8x1x2048.Idx → BitVec 32) (ix3 t 0 k)
      = (m ((d.tc : Thread nD τ).loc main_arg2) : S16384.Idx → BitVec 32) (ix1 ⟨t.val * 2048 + k.val, by omega⟩) := by
  have h : V3 m d (Proc.devRef .tc main_v0) = fun i => shapeCast S8x1x2048 (m ((d.tc : Thread nD τ).loc main_arg2) : S16384.Idx → BitVec 32) shapeCasts_S16384_S8x1x2048 i := by
    unfold V3 op2
    rw [StableHlo.unary_result_ne' (h := (by decide : main_v0 ≠ main_v2))]
    unfold V2
    rw [Function.update_of_ne (StableHlo.devRef_ne_of_ne (by decide : main_v0 ≠ main_v1))]
    unfold V1 op0
    rw [StableHlo.reshape_result']
    rfl
  rw [h]
  show shapeCast S8x1x2048 _ shapeCasts_S16384_S8x1x2048 (ix3 t 0 k) = _
  pointwise

theorem tail_read (o : S32x16.Idx → EReal) (a b : EReal) :
    tailVal (F := Ideal) o (twoOut (F := Ideal) (a, b)) ix0
      = a + Ideal.ofBits .f32 0x3BA3D70A#32 * ((∑ w : Fin 32, ∑ i : Fin 16, o (ix2 w i)) - b) * ((∑ w : Fin 32, ∑ i : Fin 16, o (ix2 w i)) - b) := by
  unfold tailVal
  pointwise [twoOut]

theorem outK_real (P : Fin 16384 → Fin 1000 → ℝ) (X : Fin 16384 → Fin 512 → ℝ) (L : Fin 16384 → Fin 1000) (C : Fin 1000 → Fin 512 → ℝ)
    (hp : ∀ b r, (m ((d.tc : Thread nD τ).loc main_arg0) : S16384x1000.Idx → EReal) (ix2 b r) = (P b r : EReal))
    (hx : ∀ b j, (m ((d.tc : Thread nD τ).loc main_arg1) : S16384x512.Idx → EReal) (ix2 b j) = (X b j : EReal))
    (hl : ∀ b, (m ((d.tc : Thread nD τ).loc main_arg2) : S16384.Idx → BitVec 32) (ix1 b) = BitVec.ofNat 32 (L b).val)
    (hc : ∀ r j, (m ((d.tc : Thread nD τ).loc main_arg3) : S1000x512.Idx → EReal) (ix2 r j) = (C r j : EReal)) :
    outK m d ix0 = (answer P X L C : EReal) := by
  have hA : vAcc (V3 m d) 7 = (((∑ b, (lse (P b) - P b (L b)) : ℝ) : EReal), ((∑ b, ∑ j, C (L b) j : ℝ) : EReal)) :=
    acc_real _ _ _ P L C (fun r b => (entry_p m d r b).trans (hp b r))
      (fun r j => (congrFun (V3_keeps m d main_arg3 (by decide)) (ix2 r j)).trans (hc r j)) fun t k => (entry_l m d t k).trans (hl _)
  have hO : ∑ w : Fin 32, ∑ i : Fin 16, outVal (F := Ideal) (m (xLoc d)) (ix2 w i) = ((∑ b, ∑ j, X b j : ℝ) : EReal) := by
    rw [sum_outVal, ← sum_coe]
    refine Finset.sum_congr rfl fun b _ => ?_
    rw [← sum_coe]
    exact Finset.sum_congr rfl fun j _ => hx b j
  unfold outK
  rw [hA, tail_read, hO, ofBits_weight]
  unfold answer
  push_cast
  rfl

end Cert.Proof.Val

end

end
-- ==== Proof.RefPieces.lean ====
/-
  The reference's result cut into the pieces its mathematics names, each piece named.
-/
module

public import proofs.«01_k».proof.Proof.Gen.ReferenceIdeal.Run
public import Idealize.ShloMosaic.PureOps.Ideal

@[expose] public section

noncomputable section

namespace Cert.Proof.Ref

open Cert.ReferenceIdeal Cert.ReferenceIdeal.Gen
open Idealize.ShloMosaic

attribute [local instance] Cert.ReferenceIdeal.Gen.facts

abbrev Words := IVec S16384 32

/-- The labels as rows of one index each, a negative one moved up by the number of rows. -/
def rowIdx (l : Words) : IVec S16384x1 32 :=
  broadcastInDim S16384x1 ![0] bcast_S16384_S16384x1_0
    (select (cmpi .slt l (broadcastInDim S16384 ![] bcast_S_S16384 (constantI S_ 32 0#32)))
      (addi l (broadcastInDim S16384 ![] bcast_S_S16384 (constantI S_ 32 1000#32))) l)

/-- Whether each index is one of a row of the centers' table. -/
def rowIn (l : Words) : IVec S16384x1 1 :=
  andi (cmpi .sge (rowIdx l) (broadcastInDim S16384x1 ![] bcast_S_S16384x1 (constantI S_ 32 0#32)))
    (cmpi .sle (rowIdx l) (broadcastInDim S16384x1 ![0, 1] bcast_S1x1_S16384x1_0_1 (broadcastInDim S1x1 ![1] bcast_S1_S1x1_1 (constantI S1 32 999#32))))

/-- Which rows of the centers' table exist. -/
def rowOk (l : Words) : IVec S16384 1 :=
  Host.reduce IntOp.andi (rowIn l) (constantI S_ 1 1#1) reducesTo_S16384x1_S16384_d1 h_S_

/-- The labels' centers. -/
def centers (cc : FVec Ideal S1000x512 .f32) (l : Words) : FVec Ideal S16384x512 .f32 :=
  select (broadcastInDim S16384x512 ![0] bcast_S16384_S16384x512_0 (rowOk l))
    (Host.gather gather_S1000x512_S16384x1_S16384x512_1_0_n_n_0_1_1512 cc (rowIdx l))
    (broadcastInDim S16384x512 ![] bcast_S_S16384x512 (constant S_ .f32 0x7FC00000#32))

/-- The labels as entries of a row each. -/
def colIdx (l : Words) : IVec S16384x1x1 32 :=
  shapeCast S16384x1x1 (select (cmpi .slt (broadcastInDim S16384x1 ![0] bcast_S16384_S16384x1_0 l) (broadcastInDim S16384x1 ![] bcast_S_S16384x1 (constantI S_ 32 0#32)))
    (addi (broadcastInDim S16384x1 ![0] bcast_S16384_S16384x1_0 l) (broadcastInDim S16384x1 ![] bcast_S_S16384x1 (constantI S_ 32 1000#32)))
    (broadcastInDim S16384x1 ![0] bcast_S16384_S16384x1_0 l)) shapeCasts_S16384x1_S16384x1x1

/-- Whether each index is one of an entry of a row. -/
def colIn (l : Words) : IVec S16384x1x1 1 :=
  andi (cmpi .sge (colIdx l) (broadcastInDim S16384x1x1 ![] bcast_S_S16384x1x1 (constantI S_ 32 0#32)))
    (cmpi .sle (colIdx l) (broadcastInDim S16384x1x1 ![0, 1, 2] bcast_S1x1x1_S16384x1x1_0_1_2 (broadcastInDim S1x1x1 ![2] bcast_S1_S1x1x1_2 (constantI S1 32 999#32))))

/-- Which entries exist. -/
def colOk (l : Words) : IVec S16384x1 1 :=
  Host.reduce IntOp.andi (colIn l) (constantI S_ 1 1#1) reducesTo_S16384x1x1_S16384x1_d2 h_S_

/-- Each row's greatest entry. -/
def rowTop (p : FVec Ideal S16384x1000 .f32) : FVec Ideal S16384 .f32 :=
  Host.reduce FloatOps.maximumf p (constant S_ .f32 0xFF800000#32) reducesTo_S16384x1000_S16384_d1 h_S_

/-- Each row less its greatest entry. -/
def shifted (p : FVec Ideal S16384x1000 .f32) : FVec Ideal S16384x1000 .f32 :=
  subf p (broadcastInDim S16384x1000 ![0, 1] bcast_S16384x1_S16384x1000_0_1 (broadcastInDim S16384x1 ![0] bcast_S16384_S16384x1_0
    (maximumf (broadcastInDim S16384 ![] bcast_S_S16384 (constant S_ .f32 0xFF800000#32)) (rowTop p))))

/-- Each row's log-softmax. -/
def logSoft (p : FVec Ideal S16384x1000 .f32) : FVec Ideal S16384x1000 .f32 :=
  subf (shifted p) (broadcastInDim S16384x1000 ![0, 1] bcast_S16384x1_S16384x1000_0_1 (Host.log (broadcastInDim S16384x1 ![0] bcast_S16384_S16384x1_0
    (Host.reduceAdd (Host.exp (shifted p)) (constant S_ .f32 0x00000000#32) reducesTo_S16384x1000_S16384_d1 h_S_))))

/-- The rows' entries at the labels. -/
def picked (q : FVec Ideal S16384x1000 .f32) (l : Words) : FVec Ideal S16384 .f32 :=
  shapeCast S16384 (select (colOk l) (Host.gather gather_S16384x1000_S16384x1x1_S16384x1_n_1_0_0_1_2_11 q (colIdx l))
    (broadcastInDim S16384x1 ![] bcast_S_S16384x1 (constant S_ .f32 0x7FC00000#32))) shapeCasts_S16384x1_S16384

/-- The two losses added. -/
def total (p : FVec Ideal S16384x1000 .f32) (x : FVec Ideal S16384x512 .f32) (l : Words) (cc : FVec Ideal S1000x512 .f32) : FVec Ideal S_ .f32 :=
  addf (Host.negf (Host.reduceAdd (picked (logSoft p) l) (constant S_ .f32 0x00000000#32) reducesTo_S16384_S_d0 h_S_))
    (mulf (constant S_ .f32 0x3BA3D70A#32) (Host.powf (Host.reduceAdd (subf x (centers cc l)) (constant S_ .f32 0x00000000#32) reducesTo_S16384x512_S_d0_1 h_S_)
      (constant S_ .f32 0x40000000#32)))

theorem result_total (m : (ℓ : Loc nD τ sig) → Buf (Elt Ideal) ℓ) (c : Dev nD) :
    Cert.ReferenceIdeal.Value.res_main_v11 m c = total (m ((c.tc : Thread nD τ).loc main_arg0)) (m ((c.tc : Thread nD τ).loc main_arg1))
      (m ((c.tc : Thread nD τ).loc main_arg2)) (m ((c.tc : Thread nD τ).loc main_arg3)) := rfl

end Cert.Proof.Ref

end

end
-- ==== Proof.RefRead.lean ====
/-
  The reference's pieces, each read at an index.
-/
module

public import proofs.«01_k».proof.Proof.RefPieces
public import Idealize.ShloMosaic.Lib.Pointwise
public import Idealize.ShloMosaic.Lib.Affine
public import Idealize.ShloMosaic.Lib.ReduceAll

@[expose] public section

noncomputable section

namespace Cert.Proof.Ref

open Cert.ReferenceIdeal Cert.ReferenceIdeal.Gen
open Idealize.ShloMosaic

attribute [local instance] Cert.ReferenceIdeal.Gen.facts

set_option maxRecDepth 16384

/-- A column set beside itself along the rows. -/
theorem col_read {α : Type} (v : S16384.Idx → α) (b : Fin 16384) (r : Fin 1000) :
    broadcastInDim S16384x1000 ![0, 1] bcast_S16384x1_S16384x1000_0_1 (broadcastInDim S16384x1 ![0] bcast_S16384_S16384x1_0 v) (ix2 b r) = v (ix1 b) := by
  pointwise

theorem fill_read {α : Type} (v : S_.Idx → α) (b : Fin 16384) :
    broadcastInDim S16384 ![] bcast_S_S16384 v (ix1 b) = v ix0 := by
  pointwise

theorem shifted_read (p : FVec Ideal S16384x1000 .f32) (b : Fin 16384) (r : Fin 1000) :
    shifted p (ix2 b r) = p (ix2 b r) - max (Ideal.ofBits .f32 0xFF800000#32) (rowTop p (ix1 b)) := by
  unfold shifted
  rw [subf_apply, col_read, maximumf_apply, fill_read, constant_apply, Ideal.subf_def, Ideal.maximumf_def, Ideal.ofBits_def]

theorem logSoft_read (p : FVec Ideal S16384x1000 .f32) (b : Fin 16384) (r : Fin 1000) :
    logSoft p (ix2 b r) = shifted p (ix2 b r) - Ideal.log (∑ r : Fin 1000, Ideal.exp (shifted p (ix2 b r))) := by
  pointwise [logSoft]

theorem total_read (p : FVec Ideal S16384x1000 .f32) (x : FVec Ideal S16384x512 .f32) (l : Words) (cc : FVec Ideal S1000x512 .f32) :
    total p x l cc ix0 = -(∑ b : Fin 16384, picked (logSoft p) l (ix1 b))
      + Ideal.ofBits .f32 0x3BA3D70A#32 * Ideal.pow (∑ b : Fin 16384, ∑ j : Fin 512, (x (ix2 b j) - centers cc l (ix2 b j))) (Ideal.ofBits .f32 0x40000000#32) := by
  pointwise [total]

theorem rowTop_read (p : FVec Ideal S16384x1000 .f32) (b : Fin 16384) :
    rowTop p (ix1 b) = Finset.univ.fold max (Ideal.ofBits .f32 0xFF800000#32) fun r : Fin 1000 => p (ix2 b r) := by
  unfold rowTop
  generalize hz : (constant S_ .f32 0xFF800000#32 : FVec Ideal S_ .f32) = z
  have e : Ideal.ofBits .f32 0xFF800000#32 = z ix0 := by rw [← hz, constant_apply, Ideal.ofBits_def]
  rw [e]
  simp only [pointwise]
  exact congrArg (fun i => Finset.fold max (z i) (fun r : Fin 1000 => p (ix2 b r)) Finset.univ) (ix0_eta _).symm

end Cert.Proof.Ref

end

end
-- ==== Proof.RefLabels.lean ====
/-
  The reference's two look-ups under labels that are row numbers of the table: nothing is out of range, and each reads the
  entry the label names.
-/
module

public import proofs.«01_k».proof.Proof.RefRead
public import Idealize.ShloMosaic.Lib.Routing.Ops
public import Idealize.ShloMosaic.Lib.Pointwise.IndexBridge

@[expose] public section

noncomputable section

namespace Cert.Proof.Ref

open Cert.ReferenceIdeal Cert.ReferenceIdeal.Gen
open Idealize.ShloMosaic

attribute [local instance] Cert.ReferenceIdeal.Gen.facts

theorem label_toInt (k : Fin 1000) : (BitVec.ofNat 32 k.val).toInt = (k.val : ℤ) := by
  have := k.isLt
  rw [BitVec.toInt_eq_toNat_of_lt (by rw [BitVec.toNat_ofNat]; omega), BitVec.toNat_ofNat]
  omega

theorem cmp_ge (k : Fin 1000) : IntOp.cmpi .sge (BitVec.ofNat 32 k.val) 0#32 = 1#1 :=
  IntOp.cmpi_sge.2 (by rw [label_toInt]; exact Int.natCast_nonneg _)

theorem cmp_le (k : Fin 1000) : IntOp.cmpi .sle (BitVec.ofNat 32 k.val) 999#32 = 1#1 :=
  IntOp.cmpi_sle.2 (by have := k.isLt; rw [label_toInt]; show (k.val : ℤ) ≤ 999; omega)

theorem cmp_lt (k : Fin 1000) : ¬ IntOp.cmpi .slt (BitVec.ofNat 32 k.val) 0#32 = 1#1 := by
  rw [IntOp.cmpi_slt, label_toInt]
  exact not_lt.2 (Int.natCast_nonneg _)

/-- A row number is left as it is where a negative one would be moved up. -/
theorem wrap (k : Fin 1000) (a : BitVec 32) :
    Scalar.select (IntOp.cmpi .slt (BitVec.ofNat 32 k.val) 0#32) a (BitVec.ofNat 32 k.val) = BitVec.ofNat 32 k.val := by
  unfold Scalar.select
  exact if_neg (cmp_lt k)

/-- A choice of one bit a row, read at an entry. -/
theorem row_choice {α : Type} (o : IVec S16384 1) (g : S16384x512.Idx → α) (z : S_.Idx → α) (b : Fin 16384) (j : Fin 512) :
    select (broadcastInDim S16384x512 ![0] bcast_S16384_S16384x512_0 o) g (broadcastInDim S16384x512 ![] bcast_S_S16384x512 z) (ix2 b j)
      = Scalar.select (o (ix1 b)) (g (ix2 b j)) (z ix0) := by
  pointwise

/-- A choice of one bit an entry, set as a column. -/
theorem entry_choice {α : Type} (o : IVec S16384x1 1) (g : S16384x1.Idx → α) (z : S_.Idx → α) (b : Fin 16384) :
    shapeCast S16384 (select o g (broadcastInDim S16384x1 ![] bcast_S_S16384x1 z)) shapeCasts_S16384x1_S16384 (ix1 b)
      = Scalar.select (o (ix2 b 0)) (g (ix2 b 0)) (z ix0) := by
  pointwise

variable {l : Words} {L : Fin 16384 → Fin 1000} (hl : ∀ b, l (ix1 b) = BitVec.ofNat 32 (L b).val)

include hl

theorem rowIdx_label (b : Fin 16384) (q : Fin 1) : rowIdx l (ix2 b q) = BitVec.ofNat 32 (L b).val := by
  refine Eq.trans (?_ : _ = Scalar.select (IntOp.cmpi .slt (l (ix1 b)) 0#32) (IntOp.addi (l (ix1 b)) 1000#32) (l (ix1 b))) ?_
  · pointwise [rowIdx]
  · rw [hl, wrap]

theorem colIdx_label (b : Fin 16384) (q r : Fin 1) : colIdx l (ix3 b q r) = BitVec.ofNat 32 (L b).val := by
  refine Eq.trans (?_ : _ = Scalar.select (IntOp.cmpi .slt (l (ix1 b)) 0#32) (IntOp.addi (l (ix1 b)) 1000#32) (l (ix1 b))) ?_
  · pointwise [colIdx]
  · rw [hl, wrap]

theorem rowIn_one (b : Fin 16384) (q : Fin 1) : rowIn l (ix2 b q) = 1#1 := by
  refine Eq.trans (?_ : _ = IntOp.andi (IntOp.cmpi .sge (rowIdx l (ix2 b q)) 0#32) (IntOp.cmpi .sle (rowIdx l (ix2 b q)) 999#32)) ?_
  · pointwise [rowIn]
  · rw [rowIdx_label hl, cmp_ge, cmp_le]; rfl

theorem colIn_one (b : Fin 16384) (q r : Fin 1) : colIn l (ix3 b q r) = 1#1 := by
  refine Eq.trans (?_ : _ = IntOp.andi (IntOp.cmpi .sge (colIdx l (ix3 b q r)) 0#32) (IntOp.cmpi .sle (colIdx l (ix3 b q r)) 999#32)) ?_
  · pointwise [colIn]
  · rw [colIdx_label hl, cmp_ge, cmp_le]; rfl

theorem rowOk_one (b : Fin 16384) : rowOk l (ix1 b) = 1#1 :=
  Host.reduce_andi_one _ _ _ _ _ rfl fun i => (congrArg (rowIn l) (eq_ix2 i)).trans (rowIn_one hl _ _)

theorem colOk_one (b : Fin 16384) (q : Fin 1) : colOk l (ix2 b q) = 1#1 :=
  Host.reduce_andi_one _ _ _ _ _ rfl fun i => (congrArg (colIn l) (eq_ix3 i)).trans (colIn_one hl _ _ _)

/-- The label's row of the table. -/
theorem gather_center (cc : FVec Ideal S1000x512 .f32) (b : Fin 16384) (j : Fin 512) :
    Host.gather gather_S1000x512_S16384x1_S16384x512_1_0_n_n_0_1_1512 cc (rowIdx l) (ix2 b j) = cc (ix2 (L b) j) := by
  have h := Routing.gather_row (nb := 1000) (B := 512) (n := 16384) gather_S1000x512_S16384x1_S16384x512_1_0_n_n_0_1_1512
    rfl rfl rfl rfl rfl cc (rowIdx l) b j (L b) ((congrArg (rowIdx l) (ix2_eq_valueIdx b 0).symm).trans (rowIdx_label hl b 0)) (by norm_num)
  exact ((congrArg (Host.gather _ cc (rowIdx l)) (ix2_eq_valueIdx b j)).trans h).trans (congrArg cc (ix2_eq_valueIdx (L b) j).symm)

/-- The label's entry of its row. -/
theorem gather_entry (p : FVec Ideal S16384x1000 .f32) (b : Fin 16384) (q : Fin 1) :
    Host.gather gather_S16384x1000_S16384x1x1_S16384x1_n_1_0_0_1_2_11 p (colIdx l) (ix2 b q) = p (ix2 b (L b)) := by
  unfold Host.gather
  refine congrArg p (funext fun a => Fin.ext ?_)
  set d := gather_S16384x1000_S16384x1x1_S16384x1_n_1_0_0_1_2_11 with hd
  show d.start (ix2 b q) (colIdx l) a + d.batchCoord (ix2 b q) a + d.offCoord (ix2 b q) a = _
  have h01 : a = (0 : Fin 2) ∨ a = (1 : Fin 2) := by
    match a with
    | ⟨0, _⟩ => exact Or.inl rfl
    | ⟨1, _⟩ => exact Or.inr rfl
  rcases h01 with rfl | rfl
  · have h0 : (0 : Fin 2) ∈ d.operandBatchingDims := List.mem_singleton.mpr rfl
    rw [GatherDims.start_batching _ _ _ _ h0, GatherDims.offCoord_eq_zero _ _ _ fun h => ((GatherDims.mem_sKept _ _).mp h).2 h0]
    unfold GatherDims.batchCoord
    rw [dif_pos h0, Nat.zero_add, Nat.add_zero]
    rfl
  · have h1 : (1 : Fin 2) ∈ d.startIndexMap := List.mem_singleton.mpr rfl
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    rw [dif_pos h1, Nat.add_zero]
    have e : ∀ i : S16384x1x1.Idx, i 0 = b → (colIdx l i).toInt = ((L b).val : ℤ) := fun i hi =>
      (congrArg (fun i => (colIdx l i).toInt) (eq_ix3 i)).trans
        ((congrArg BitVec.toInt (colIdx_label hl _ _ _)).trans ((label_toInt _).trans (by rw [hi])))
    rw [e _ rfl]
    have := (L b).isLt
    show min ((L b).val : ℤ).toNat 999 = (L b).val
    omega

theorem centers_read (cc : FVec Ideal S1000x512 .f32) (b : Fin 16384) (j : Fin 512) :
    centers cc l (ix2 b j) = cc (ix2 (L b) j) := by
  unfold centers
  rw [row_choice, rowOk_one hl, gather_center hl]
  rfl

theorem picked_read (p : FVec Ideal S16384x1000 .f32) (b : Fin 16384) : picked p l (ix1 b) = p (ix2 b (L b)) := by
  unfold picked
  rw [entry_choice, colOk_one hl, gather_entry hl]
  rfl

end Cert.Proof.Ref

end

end
-- ==== Proof.RefValue.lean ====
/-
  The reference's result among the reals.
-/
module

public import proofs.«01_k».proof.Proof.RefLabels
public import proofs.«01_k».proof.Proof.RealSide

@[expose] public section

noncomputable section

namespace Cert.Proof.Ref

open Cert.ReferenceIdeal Cert.ReferenceIdeal.Gen
open Idealize.ShloMosaic
open Cert.Proof.Val (top lse answer weight sum_coe expSum)

attribute [local instance] Cert.ReferenceIdeal.Gen.facts

variable {p : FVec Ideal S16384x1000 .f32} {x : FVec Ideal S16384x512 .f32} {l : Words} {cc : FVec Ideal S1000x512 .f32}
  {P : Fin 16384 → Fin 1000 → ℝ} {X : Fin 16384 → Fin 512 → ℝ} {L : Fin 16384 → Fin 1000} {C : Fin 1000 → Fin 512 → ℝ}

theorem rowTop_real (hp : ∀ b r, (p (ix2 b r) : EReal) = (P b r : EReal)) (b : Fin 16384) : (rowTop p (ix1 b) : EReal) = (top (P b) : EReal) := by
  rw [rowTop_read, Val.ofBits_neg_inf, ← Val.fold_max_coe]
  exact congrArg (fun f => Finset.fold max (⊥ : EReal) f Finset.univ) (funext fun r => hp b r)

theorem shifted_real (hp : ∀ b r, (p (ix2 b r) : EReal) = (P b r : EReal)) (b : Fin 16384) (r : Fin 1000) :
    (shifted p (ix2 b r) : EReal) = (P b r : EReal) - (top (P b) : EReal) := by
  rw [shifted_read, rowTop_real hp, Val.ofBits_neg_inf, hp, max_eq_right bot_le]

theorem logSoft_real (hp : ∀ b r, (p (ix2 b r) : EReal) = (P b r : EReal)) (b : Fin 16384) (r : Fin 1000) :
    (logSoft p (ix2 b r) : EReal) = ((-(lse (P b) - P b r) : ℝ) : EReal) := by
  rw [logSoft_read, shifted_real hp, Finset.sum_congr rfl fun r _ => congrArg Ideal.exp (shifted_real hp b r), Val.log_expSum,
    ← EReal.coe_sub, ← EReal.coe_sub]
  refine congrArg _ ?_
  unfold lse
  ring

/-- The reference leaves the answer. -/
theorem total_real (hp : ∀ b r, (p (ix2 b r) : EReal) = (P b r : EReal)) (hx : ∀ b j, (x (ix2 b j) : EReal) = (X b j : EReal))
    (hl : ∀ b, l (ix1 b) = BitVec.ofNat 32 (L b).val) (hc : ∀ r j, (cc (ix2 r j) : EReal) = (C r j : EReal)) :
    (total p x l cc ix0 : EReal) = (answer P X L C : EReal) := by
  have h1 : ∑ b : Fin 16384, (picked (logSoft p) l (ix1 b) : EReal) = ((-∑ b, (lse (P b) - P b (L b)) : ℝ) : EReal) := by
    rw [Finset.sum_congr rfl fun b _ => (picked_read hl (logSoft p) b).trans (logSoft_real hp b (L b)), sum_coe, Finset.sum_neg_distrib]
  have h2 : ∑ b : Fin 16384, ∑ j : Fin 512, ((x (ix2 b j) : EReal) - centers cc l (ix2 b j))
      = (((∑ b, ∑ j, X b j) - ∑ b, ∑ j, C (L b) j : ℝ) : EReal) := by
    have e : ∀ b j, (x (ix2 b j) : EReal) - centers cc l (ix2 b j) = ((X b j - C (L b) j : ℝ) : EReal) := fun b j => by
      rw [centers_read hl, hx, hc, EReal.coe_sub]
    rw [Finset.sum_congr rfl fun b _ => (Finset.sum_congr rfl fun j _ => e b j).trans (sum_coe _ _), sum_coe]
    refine congrArg _ ?_
    simp only [Finset.sum_sub_distrib]
  rw [total_read, h1, h2, Val.ofBits_weight, Val.ofBits_two, Ideal.pow_coe_coe, ← EReal.coe_neg, ← EReal.coe_mul, ← EReal.coe_add]
  refine congrArg _ ?_
  unfold answer
  rw [neg_neg]
  refine congrArg _ ?_
  rw [mul_assoc]
  refine congrArg _ ?_
  exact (Real.rpow_two _).trans (pow_two _)

end Cert.Proof.Ref

end

end
-- ==== Proof.Agree.lean ====
/-
  The kernel's result and the reference's, from arguments that meet the claim's condition.
-/
module

public import proofs.«01_k».proof.Defs
public import proofs.«01_k».proof.Proof.Args
public import proofs.«01_k».proof.Proof.KernelValue
public import proofs.«01_k».proof.Proof.RefValue

@[expose] public section

noncomputable section

namespace Cert.Proof

open Idealize.ShloMosaic Idealize.SL.Sem

/-- Both programs leave the same answer. -/
theorem results_agree (m : (ℓ : Loc Cert.KernelIdeal.nD Cert.KernelIdeal.τ Cert.KernelIdeal.sig) → Buf (Elt Ideal) ℓ)
    (hm : Cert.Pre_KernelIdeal_args_in_range (hPre_args_in_range := Args.facts) m) (c : Dev Cert.KernelIdeal.nD) :
    Ref.total (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Run.outK m c := by
  obtain ⟨h1, h2, h3, h4⟩ := hm c
  have hp := Args.p_of_pre h2
  have hx := Args.x_of_pre h3
  have hl := Args.label_of_pre h1
  have hc := Args.c_of_pre h4
  funext i
  rw [← ix0_eta i]
  exact (Ref.total_real (L := fun b => ⟨_, Nat.mod_lt _ (by norm_num)⟩) (fun b r => hp (ix2 b r)) (fun b j => hx (ix2 b j)) hl (fun r j => hc (ix2 r j))).trans
    (Val.outK_real m c _ _ (fun b => ⟨_, Nat.mod_lt _ (by norm_num)⟩) _ (fun b r => hp (ix2 b r)) (fun b j => hx (ix2 b j)) hl (fun r j => hc (ix2 r j))).symm

end Cert.Proof

end

end
-- ==== Proof.lean ====
/-
  The proof of the certificate's claims. The kernel's run is `Proof/Main.lean` (from `Setup`, `Row`, `Tile`, `Launch` for
  the SparseCore call and `Region`, `Entry` for the TensorCore region), its ends are `Proof/Ends.lean`. That its result
  is the reference's is `Proof/Agree.lean` (from `BlockRead`, `BlockValue`, `SumValue`, `KernelValue` for the kernel,
  `RefPieces`, `RefRead`, `RefLabels`, `RefValue` for the reference, `Args` for the condition on the arguments).
-/
module

public import proofs.«01_k».proof.Defs
public import proofs.«01_k».proof.Proof.FrameK
public import proofs.«01_k».proof.Proof.Agree
public import proofs.«01_k».proof.Proof.Gen.ReferenceIdeal.Run

@[expose] public section

noncomputable section

namespace Cert.Proof

open Idealize.ShloMosaic Idealize.SL.Sem

/-- The reference's frame: the generated run read at the arguments; the program declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference leave equal results, from arguments that meet the condition. -/
theorem same_results : Cert.algebraic_KernelIdeal_ReferenceIdeal_pre_args_in_range (hKernelIdeal := Cert.KernelIdeal.Gen.facts)
    (hReferenceIdeal := Cert.ReferenceIdeal.Gen.facts) (hPre_args_in_range := Args.facts) := fun m g m' g' hm hargs =>
  ⟨fun c => Run.outK m c,
    (θ_run (Cert.KernelIdeal.defs (F := Ideal)) _ _).mono (fun _ h => (Run.ends m h).1) (Run.run_main m g),
    (θ_run Cert.ReferenceIdeal.defs _ _).mono
      (fun r h c => ⟨(h c).1.trans ((Ref.result_total m' c).trans (by
        obtain ⟨h0, h1, h2, h3⟩ := hargs c
        rw [h0, h1, h2, h3]
        exact results_agree m hm c)), (h c).2⟩)
      (Cert.ReferenceIdeal.Value.run (F := Ideal) m' g')⟩

theorem claim : Cert.Claim := ⟨Cert.Kernel.Gen.facts, Cert.KernelIdeal.Gen.facts, Cert.ReferenceIdeal.Gen.facts, Args.facts,
  frame_kernel, frame_ideal, fun m g _ => frame_ideal m g trivial, frame_reference, fun m g _ => frame_reference m g trivial,
  trivial, same_results⟩

end Cert.Proof

end
